-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![16384, 768]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x512 : Shape := ⟨2, ![768, 512]⟩
abbrev S2x512x256x64 : Shape := ⟨4, ![2, 512, 256, 64]⟩
abbrev S512x768 : Shape := ⟨2, ![512, 768]⟩
abbrev S_ : Shape := ⟨0, ![]⟩
abbrev S2x512x8x64 : Shape := ⟨4, ![2, 512, 8, 64]⟩
abbrev S2x8x512x64 : Shape := ⟨4, ![2, 8, 512, 64]⟩
abbrev S2x512x512 : Shape := ⟨3, ![2, 512, 512]⟩
abbrev S1024x768 : Shape := ⟨2, ![1024, 768]⟩
abbrev S992x768 : Shape := ⟨2, ![992, 768]⟩
abbrev S5 : Shape := ⟨1, ![5]⟩
abbrev S1x512x768 : Shape := ⟨3, ![1, 512, 768]⟩
abbrev S512x512 : Shape := ⟨2, ![512, 512]⟩
abbrev S1x512x512 : Shape := ⟨3, ![1, 512, 512]⟩
abbrev S1x512x64 : Shape := ⟨3, ![1, 512, 64]⟩
abbrev S512x64 : Shape := ⟨2, ![512, 64]⟩
abbrev S1x1x512x64 : Shape := ⟨4, ![1, 1, 512, 64]⟩
abbrev S512 : Shape := ⟨1, ![512]⟩
abbrev S512x1 : Shape := ⟨2, ![512, 1]⟩
abbrev S1 : Shape := ⟨1, ![1]⟩
abbrev S256x768 : Shape := ⟨2, ![256, 768]⟩
abbrev S128x768 : Shape := ⟨2, ![128, 768]⟩
abbrev S64x768 : Shape := ⟨2, ![64, 768]⟩
abbrev S32x768 : Shape := ⟨2, ![32, 768]⟩

abbrev nBuf : Space → Nat
  | .hbm => 36
  | .vmem => 10
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x256x64, .bf16⟩
  | .hbm, ⟨3, _⟩ => ⟨S2x512x256x64, .bf16⟩
  | .hbm, ⟨4, _⟩ => ⟨S512x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x8x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x8x64, .bf16⟩
  | .hbm, ⟨33, _⟩ => ⟨S2x8x512x64, .bf16⟩
  | .hbm, ⟨34, _⟩ => ⟨S2x8x512x64, .bf16⟩
  | .hbm, ⟨35, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x8x512x64, .bf16⟩
  | .local _ .vmem, ⟨3, _⟩ => ⟨S2x8x512x64, .bf16⟩
  | .local _ .vmem, ⟨4, _⟩ => ⟨S512x768, .bf16⟩
  | .local _ .vmem, ⟨5, _⟩ => ⟨S2x512x768, .f32⟩
  | .local _ .vmem, ⟨6, _⟩ => ⟨S2x512x512, .bf16⟩
  | .local _ .vmem, ⟨7, _⟩ => ⟨S2x512x512, .bf16⟩
  | .local _ .vmem, ⟨8, _⟩ => ⟨S1024x768, .f32⟩
  | .local _ .vmem, ⟨9, _⟩ => ⟨S992x768, .f32⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_365 : BitVec 32 := 0#32
  let v520 : BitVec 32 := Scalar.muli v2 c0_i32_365
  let c1_i32_369 : BitVec 32 := 1#32
  let c0_i32_367 : BitVec 32 := 0#32
  let v522 : BitVec 32 := Scalar.shrui v2 c0_i32_367
  let c1_i32_368 : BitVec 32 := 1#32
  let v523 : BitVec 32 := Scalar.andi v522 c1_i32_368
  let v526 : BitVec 32 := Scalar.subi c1_i32_369 v523
  let c512_i32_370 : BitVec 32 := 512#32
  let v527 : BitVec 32 := Scalar.muli v526 c512_i32_370
  let v528 : BitVec 32 := Scalar.addi v520 v527
  let c0_i32_377 : BitVec 32 := 0#32
  ![v528.toNat, 0]
def k0_dev6 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_366 : BitVec 32 := 1#32
  let v521 : BitVec 32 := Scalar.xori v2 c1_i32_366
  let c1_i32_373 : BitVec 32 := 1#32
  let v529 : BitVec 32 := Scalar.muli v521 c1_i32_373
  let v530 : BitVec 32 := Scalar.addi c0_i32_374 v529
  v530.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_365 : BitVec 32 := 0#32
  let v520 : BitVec 32 := Scalar.muli v2 c0_i32_365
  let c0_i32_367 : BitVec 32 := 0#32
  let v522 : BitVec 32 := Scalar.shrui v2 c0_i32_367
  let c1_i32_368 : BitVec 32 := 1#32
  let v523 : BitVec 32 := Scalar.andi v522 c1_i32_368
  let c512_i32 : BitVec 32 := 512#32
  let v524 : BitVec 32 := Scalar.muli v523 c512_i32
  let v525 : BitVec 32 := Scalar.addi v520 v524
  let v547 : Index := Scalar.indexCast v525
  let c0_391 : Index := 0#32
  ![v547.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_365 : BitVec 32 := 0#32
  let v520 : BitVec 32 := Scalar.muli v2 c0_i32_365
  let c0_i32_367 : BitVec 32 := 0#32
  let v522 : BitVec 32 := Scalar.shrui v2 c0_i32_367
  let c1_i32_368 : BitVec 32 := 1#32
  let v523 : BitVec 32 := Scalar.andi v522 c1_i32_368
  let c512_i32 : BitVec 32 := 512#32
  let v524 : BitVec 32 := Scalar.muli v523 c512_i32
  let v525 : BitVec 32 := Scalar.addi v520 v524
  let c1_i32_398 : BitVec 32 := 1#32
  let c1_i32_396 : BitVec 32 := 1#32
  let v556 : BitVec 32 := Scalar.shrui v2 c1_i32_396
  let c1_i32_397 : BitVec 32 := 1#32
  let v557 : BitVec 32 := Scalar.andi v556 c1_i32_397
  let v560 : BitVec 32 := Scalar.subi c1_i32_398 v557
  let c256_i32_399 : BitVec 32 := 256#32
  let v561 : BitVec 32 := Scalar.muli v560 c256_i32_399
  let v562 : BitVec 32 := Scalar.addi v525 v561
  let c0_i32_406 : BitVec 32 := 0#32
  ![v562.toNat, 0]
def k0_dev7 (d0 : Dev nD) : Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_395 : BitVec 32 := 2#32
  let v555 : BitVec 32 := Scalar.xori v2 c2_i32_395
  let c1_i32_402 : BitVec 32 := 1#32
  let v563 : BitVec 32 := Scalar.muli v555 c1_i32_402
  let v564 : BitVec 32 := Scalar.addi c0_i32_403 v563
  v564.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_365 : BitVec 32 := 0#32
  let v520 : BitVec 32 := Scalar.muli v2 c0_i32_365
  let c0_i32_367 : BitVec 32 := 0#32
  let v522 : BitVec 32 := Scalar.shrui v2 c0_i32_367
  let c1_i32_368 : BitVec 32 := 1#32
  let v523 : BitVec 32 := Scalar.andi v522 c1_i32_368
  let c512_i32 : BitVec 32 := 512#32
  let v524 : BitVec 32 := Scalar.muli v523 c512_i32
  let v525 : BitVec 32 := Scalar.addi v520 v524
  let c1_i32_396 : BitVec 32 := 1#32
  let v556 : BitVec 32 := Scalar.shrui v2 c1_i32_396
  let c1_i32_397 : BitVec 32 := 1#32
  let v557 : BitVec 32 := Scalar.andi v556 c1_i32_397
  let c256_i32 : BitVec 32 := 256#32
  let v558 : BitVec 32 := Scalar.muli v557 c256_i32
  let v559 : BitVec 32 := Scalar.addi v525 v558
  let v581 : Index := Scalar.indexCast v559
  let c0_420 : Index := 0#32
  ![v581.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_365 : BitVec 32 := 0#32
  let v520 : BitVec 32 := Scalar.muli v2 c0_i32_365
  let c0_i32_367 : BitVec 32 := 0#32
  let v522 : BitVec 32 := Scalar.shrui v2 c0_i32_367
  let c1_i32_368 : BitVec 32 := 1#32
  let v523 : BitVec 32 := Scalar.andi v522 c1_i32_368
  let c512_i32 : BitVec 32 := 512#32
  let v524 : BitVec 32 := Scalar.muli v523 c512_i32
  let v525 : BitVec 32 := Scalar.addi v520 v524
  let c1_i32_396 : BitVec 32 := 1#32
  let v556 : BitVec 32 := Scalar.shrui v2 c1_i32_396
  let c1_i32_397 : BitVec 32 := 1#32
  let v557 : BitVec 32 := Scalar.andi v556 c1_i32_397
  let c256_i32 : BitVec 32 := 256#32
  let v558 : BitVec 32 := Scalar.muli v557 c256_i32
  let v559 : BitVec 32 := Scalar.addi v525 v558
  let c1_i32_427 : BitVec 32 := 1#32
  let c2_i32_425 : BitVec 32 := 2#32
  let v590 : BitVec 32 := Scalar.shrui v2 c2_i32_425
  let c1_i32_426 : BitVec 32 := 1#32
  let v591 : BitVec 32 := Scalar.andi v590 c1_i32_426
  let v594 : BitVec 32 := Scalar.subi c1_i32_427 v591
  let c128_i32_428 : BitVec 32 := 128#32
  let v595 : BitVec 32 := Scalar.muli v594 c128_i32_428
  let v596 : BitVec 32 := Scalar.addi v559 v595
  let c0_i32_434 : BitVec 32 := 0#32
  ![v596.toNat, 0]
def k0_dev8 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_424 : BitVec 32 := 4#32
  let v589 : BitVec 32 := Scalar.xori v2 c4_i32_424
  let c1_i32_431 : BitVec 32 := 1#32
  let v597 : BitVec 32 := Scalar.muli v589 c1_i32_431
  let v598 : BitVec 32 := Scalar.addi c0_i32_432 v597
  v598.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_365 : BitVec 32 := 0#32
  let v520 : BitVec 32 := Scalar.muli v2 c0_i32_365
  let c0_i32_367 : BitVec 32 := 0#32
  let v522 : BitVec 32 := Scalar.shrui v2 c0_i32_367
  let c1_i32_368 : BitVec 32 := 1#32
  let v523 : BitVec 32 := Scalar.andi v522 c1_i32_368
  let c512_i32 : BitVec 32 := 512#32
  let v524 : BitVec 32 := Scalar.muli v523 c512_i32
  let v525 : BitVec 32 := Scalar.addi v520 v524
  let c1_i32_396 : BitVec 32 := 1#32
  let v556 : BitVec 32 := Scalar.shrui v2 c1_i32_396
  let c1_i32_397 : BitVec 32 := 1#32
  let v557 : BitVec 32 := Scalar.andi v556 c1_i32_397
  let c256_i32 : BitVec 32 := 256#32
  let v558 : BitVec 32 := Scalar.muli v557 c256_i32
  let v559 : BitVec 32 := Scalar.addi v525 v558
  let c2_i32_425 : BitVec 32 := 2#32
  let v590 : BitVec 32 := Scalar.shrui v2 c2_i32_425
  let c1_i32_426 : BitVec 32 := 1#32
  let v591 : BitVec 32 := Scalar.andi v590 c1_i32_426
  let c128_i32 : BitVec 32 := 128#32
  let v592 : BitVec 32 := Scalar.muli v591 c128_i32
  let v593 : BitVec 32 := Scalar.addi v559 v592
  let v615 : Index := Scalar.indexCast v593
  let c0_448 : Index := 0#32
  ![v615.toNat, 0]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_365 : BitVec 32 := 0#32
  let v520 : BitVec 32 := Scalar.muli v2 c0_i32_365
  let c0_i32_367 : BitVec 32 := 0#32
  let v522 : BitVec 32 := Scalar.shrui v2 c0_i32_367
  let c1_i32_368 : BitVec 32 := 1#32
  let v523 : BitVec 32 := Scalar.andi v522 c1_i32_368
  let c512_i32 : BitVec 32 := 512#32
  let v524 : BitVec 32 := Scalar.muli v523 c512_i32
  let v525 : BitVec 32 := Scalar.addi v520 v524
  let c1_i32_396 : BitVec 32 := 1#32
  let v556 : BitVec 32 := Scalar.shrui v2 c1_i32_396
  let c1_i32_397 : BitVec 32 := 1#32
  let v557 : BitVec 32 := Scalar.andi v556 c1_i32_397
  let c256_i32 : BitVec 32 := 256#32
  let v558 : BitVec 32 := Scalar.muli v557 c256_i32
  let v559 : BitVec 32 := Scalar.addi v525 v558
  let c2_i32_425 : BitVec 32 := 2#32
  let v590 : BitVec 32 := Scalar.shrui v2 c2_i32_425
  let c1_i32_426 : BitVec 32 := 1#32
  let v591 : BitVec 32 := Scalar.andi v590 c1_i32_426
  let c128_i32 : BitVec 32 := 128#32
  let v592 : BitVec 32 := Scalar.muli v591 c128_i32
  let v593 : BitVec 32 := Scalar.addi v559 v592
  let c1_i32_454 : BitVec 32 := 1#32
  let c3_i32 : BitVec 32 := 3#32
  let v624 : BitVec 32 := Scalar.shrui v2 c3_i32
  let c1_i32_452 : BitVec 32 := 1#32
  let v625 : BitVec 32 := Scalar.andi v624 c1_i32_452
  let v628 : BitVec 32 := Scalar.subi c1_i32_454 v625
  let c64_i32_455 : BitVec 32 := 64#32
  let v629 : BitVec 32 := Scalar.muli v628 c64_i32_455
  let v630 : BitVec 32 := Scalar.addi v593 v629
  let c0_i32_461 : BitVec 32 := 0#32
  ![v630.toNat, 0]
def k0_dev9 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_451 : BitVec 32 := 8#32
  let v623 : BitVec 32 := Scalar.xori v2 c8_i32_451
  let c1_i32_458 : BitVec 32 := 1#32
  let v631 : BitVec 32 := Scalar.muli v623 c1_i32_458
  let v632 : BitVec 32 := Scalar.addi c0_i32_459 v631
  v632.toNat
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_365 : BitVec 32 := 0#32
  let v520 : BitVec 32 := Scalar.muli v2 c0_i32_365
  let c0_i32_367 : BitVec 32 := 0#32
  let v522 : BitVec 32 := Scalar.shrui v2 c0_i32_367
  let c1_i32_368 : BitVec 32 := 1#32
  let v523 : BitVec 32 := Scalar.andi v522 c1_i32_368
  let c512_i32 : BitVec 32 := 512#32
  let v524 : BitVec 32 := Scalar.muli v523 c512_i32
  let v525 : BitVec 32 := Scalar.addi v520 v524
  let c1_i32_396 : BitVec 32 := 1#32
  let v556 : BitVec 32 := Scalar.shrui v2 c1_i32_396
  let c1_i32_397 : BitVec 32 := 1#32
  let v557 : BitVec 32 := Scalar.andi v556 c1_i32_397
  let c256_i32 : BitVec 32 := 256#32
  let v558 : BitVec 32 := Scalar.muli v557 c256_i32
  let v559 : BitVec 32 := Scalar.addi v525 v558
  let c2_i32_425 : BitVec 32 := 2#32
  let v590 : BitVec 32 := Scalar.shrui v2 c2_i32_425
  let c1_i32_426 : BitVec 32 := 1#32
  let v591 : BitVec 32 := Scalar.andi v590 c1_i32_426
  let c128_i32 : BitVec 32 := 128#32
  let v592 : BitVec 32 := Scalar.muli v591 c128_i32
  let v593 : BitVec 32 := Scalar.addi v559 v592
  let c3_i32 : BitVec 32 := 3#32
  let v624 : BitVec 32 := Scalar.shrui v2 c3_i32
  let c1_i32_452 : BitVec 32 := 1#32
  let v625 : BitVec 32 := Scalar.andi v624 c1_i32_452
  let c64_i32_453 : BitVec 32 := 64#32
  let v626 : BitVec 32 := Scalar.muli v625 c64_i32_453
  let v627 : BitVec 32 := Scalar.addi v593 v626
  let v649 : Index := Scalar.indexCast v627
  let c0_475 : Index := 0#32
  ![v649.toNat, 0]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_365 : BitVec 32 := 0#32
  let v520 : BitVec 32 := Scalar.muli v2 c0_i32_365
  let c0_i32_367 : BitVec 32 := 0#32
  let v522 : BitVec 32 := Scalar.shrui v2 c0_i32_367
  let c1_i32_368 : BitVec 32 := 1#32
  let v523 : BitVec 32 := Scalar.andi v522 c1_i32_368
  let c512_i32 : BitVec 32 := 512#32
  let v524 : BitVec 32 := Scalar.muli v523 c512_i32
  let v525 : BitVec 32 := Scalar.addi v520 v524
  let c1_i32_396 : BitVec 32 := 1#32
  let v556 : BitVec 32 := Scalar.shrui v2 c1_i32_396
  let c1_i32_397 : BitVec 32 := 1#32
  let v557 : BitVec 32 := Scalar.andi v556 c1_i32_397
  let c256_i32 : BitVec 32 := 256#32
  let v558 : BitVec 32 := Scalar.muli v557 c256_i32
  let v559 : BitVec 32 := Scalar.addi v525 v558
  let c2_i32_425 : BitVec 32 := 2#32
  let v590 : BitVec 32 := Scalar.shrui v2 c2_i32_425
  let c1_i32_426 : BitVec 32 := 1#32
  let v591 : BitVec 32 := Scalar.andi v590 c1_i32_426
  let c128_i32 : BitVec 32 := 128#32
  let v592 : BitVec 32 := Scalar.muli v591 c128_i32
  let v593 : BitVec 32 := Scalar.addi v559 v592
  let c3_i32 : BitVec 32 := 3#32
  let v624 : BitVec 32 := Scalar.shrui v2 c3_i32
  let c1_i32_452 : BitVec 32 := 1#32
  let v625 : BitVec 32 := Scalar.andi v624 c1_i32_452
  let c64_i32_453 : BitVec 32 := 64#32
  let v626 : BitVec 32 := Scalar.muli v625 c64_i32_453
  let v627 : BitVec 32 := Scalar.addi v593 v626
  let c1_i32_482 : BitVec 32 := 1#32
  let c4_i32_479 : BitVec 32 := 4#32
  let v658 : BitVec 32 := Scalar.shrui v2 c4_i32_479
  let c1_i32_480 : BitVec 32 := 1#32
  let v659 : BitVec 32 := Scalar.andi v658 c1_i32_480
  let v662 : BitVec 32 := Scalar.subi c1_i32_482 v659
  let c32_i32_483 : BitVec 32 := 32#32
  let v663 : BitVec 32 := Scalar.muli v662 c32_i32_483
  let v664 : BitVec 32 := Scalar.addi v627 v663
  let c0_i32_489 : BitVec 32 := 0#32
  ![v664.toNat, 0]
def k0_dev10 (d0 : Dev nD) : Nat :=
  let c0_i32_487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_478 : BitVec 32 := 16#32
  let v657 : BitVec 32 := Scalar.xori v2 c16_i32_478
  let c1_i32_486 : BitVec 32 := 1#32
  let v665 : BitVec 32 := Scalar.muli v657 c1_i32_486
  let v666 : BitVec 32 := Scalar.addi c0_i32_487 v665
  v666.toNat
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_365 : BitVec 32 := 0#32
  let v520 : BitVec 32 := Scalar.muli v2 c0_i32_365
  let c0_i32_367 : BitVec 32 := 0#32
  let v522 : BitVec 32 := Scalar.shrui v2 c0_i32_367
  let c1_i32_368 : BitVec 32 := 1#32
  let v523 : BitVec 32 := Scalar.andi v522 c1_i32_368
  let c512_i32 : BitVec 32 := 512#32
  let v524 : BitVec 32 := Scalar.muli v523 c512_i32
  let v525 : BitVec 32 := Scalar.addi v520 v524
  let c1_i32_396 : BitVec 32 := 1#32
  let v556 : BitVec 32 := Scalar.shrui v2 c1_i32_396
  let c1_i32_397 : BitVec 32 := 1#32
  let v557 : BitVec 32 := Scalar.andi v556 c1_i32_397
  let c256_i32 : BitVec 32 := 256#32
  let v558 : BitVec 32 := Scalar.muli v557 c256_i32
  let v559 : BitVec 32 := Scalar.addi v525 v558
  let c2_i32_425 : BitVec 32 := 2#32
  let v590 : BitVec 32 := Scalar.shrui v2 c2_i32_425
  let c1_i32_426 : BitVec 32 := 1#32
  let v591 : BitVec 32 := Scalar.andi v590 c1_i32_426
  let c128_i32 : BitVec 32 := 128#32
  let v592 : BitVec 32 := Scalar.muli v591 c128_i32
  let v593 : BitVec 32 := Scalar.addi v559 v592
  let c3_i32 : BitVec 32 := 3#32
  let v624 : BitVec 32 := Scalar.shrui v2 c3_i32
  let c1_i32_452 : BitVec 32 := 1#32
  let v625 : BitVec 32 := Scalar.andi v624 c1_i32_452
  let c64_i32_453 : BitVec 32 := 64#32
  let v626 : BitVec 32 := Scalar.muli v625 c64_i32_453
  let v627 : BitVec 32 := Scalar.addi v593 v626
  let c4_i32_479 : BitVec 32 := 4#32
  let v658 : BitVec 32 := Scalar.shrui v2 c4_i32_479
  let c1_i32_480 : BitVec 32 := 1#32
  let v659 : BitVec 32 := Scalar.andi v658 c1_i32_480
  let c32_i32_481 : BitVec 32 := 32#32
  let v660 : BitVec 32 := Scalar.muli v659 c32_i32_481
  let v661 : BitVec 32 := Scalar.addi v627 v660
  let v683 : Index := Scalar.indexCast v661
  let c0_503 : Index := 0#32
  ![v683.toNat, 0]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_365 : BitVec 32 := 0#32
  let v520 : BitVec 32 := Scalar.muli v2 c0_i32_365
  let c0_i32_367 : BitVec 32 := 0#32
  let v522 : BitVec 32 := Scalar.shrui v2 c0_i32_367
  let c1_i32_368 : BitVec 32 := 1#32
  let v523 : BitVec 32 := Scalar.andi v522 c1_i32_368
  let c512_i32 : BitVec 32 := 512#32
  let v524 : BitVec 32 := Scalar.muli v523 c512_i32
  let v525 : BitVec 32 := Scalar.addi v520 v524
  let c1_i32_396 : BitVec 32 := 1#32
  let v556 : BitVec 32 := Scalar.shrui v2 c1_i32_396
  let c1_i32_397 : BitVec 32 := 1#32
  let v557 : BitVec 32 := Scalar.andi v556 c1_i32_397
  let c256_i32 : BitVec 32 := 256#32
  let v558 : BitVec 32 := Scalar.muli v557 c256_i32
  let v559 : BitVec 32 := Scalar.addi v525 v558
  let c2_i32_425 : BitVec 32 := 2#32
  let v590 : BitVec 32 := Scalar.shrui v2 c2_i32_425
  let c1_i32_426 : BitVec 32 := 1#32
  let v591 : BitVec 32 := Scalar.andi v590 c1_i32_426
  let c128_i32 : BitVec 32 := 128#32
  let v592 : BitVec 32 := Scalar.muli v591 c128_i32
  let v593 : BitVec 32 := Scalar.addi v559 v592
  let c3_i32 : BitVec 32 := 3#32
  let v624 : BitVec 32 := Scalar.shrui v2 c3_i32
  let c1_i32_452 : BitVec 32 := 1#32
  let v625 : BitVec 32 := Scalar.andi v624 c1_i32_452
  let c64_i32_453 : BitVec 32 := 64#32
  let v626 : BitVec 32 := Scalar.muli v625 c64_i32_453
  let v627 : BitVec 32 := Scalar.addi v593 v626
  let c4_i32_479 : BitVec 32 := 4#32
  let v658 : BitVec 32 := Scalar.shrui v2 c4_i32_479
  let c1_i32_480 : BitVec 32 := 1#32
  let v659 : BitVec 32 := Scalar.andi v658 c1_i32_480
  let c32_i32_481 : BitVec 32 := 32#32
  let v660 : BitVec 32 := Scalar.muli v659 c32_i32_481
  let v661 : BitVec 32 := Scalar.addi v627 v660
  let c0_i32_513 : BitVec 32 := 0#32
  ![v661.toNat, 0]
def k0_dev11 (d0 : Dev nD) : Nat :=
  let c0_i32_512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_506 : BitVec 32 := 16#32
  let v691 : BitVec 32 := Scalar.xori v2 c16_i32_506
  let c1_i32_511 : BitVec 32 := 1#32
  let v694 : BitVec 32 := Scalar.muli v691 c1_i32_511
  let v695 : BitVec 32 := Scalar.addi c0_i32_512 v694
  v695.toNat
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_365 : BitVec 32 := 0#32
  let v520 : BitVec 32 := Scalar.muli v2 c0_i32_365
  let c0_i32_367 : BitVec 32 := 0#32
  let v522 : BitVec 32 := Scalar.shrui v2 c0_i32_367
  let c1_i32_368 : BitVec 32 := 1#32
  let v523 : BitVec 32 := Scalar.andi v522 c1_i32_368
  let c512_i32 : BitVec 32 := 512#32
  let v524 : BitVec 32 := Scalar.muli v523 c512_i32
  let v525 : BitVec 32 := Scalar.addi v520 v524
  let c1_i32_396 : BitVec 32 := 1#32
  let v556 : BitVec 32 := Scalar.shrui v2 c1_i32_396
  let c1_i32_397 : BitVec 32 := 1#32
  let v557 : BitVec 32 := Scalar.andi v556 c1_i32_397
  let c256_i32 : BitVec 32 := 256#32
  let v558 : BitVec 32 := Scalar.muli v557 c256_i32
  let v559 : BitVec 32 := Scalar.addi v525 v558
  let c2_i32_425 : BitVec 32 := 2#32
  let v590 : BitVec 32 := Scalar.shrui v2 c2_i32_425
  let c1_i32_426 : BitVec 32 := 1#32
  let v591 : BitVec 32 := Scalar.andi v590 c1_i32_426
  let c128_i32 : BitVec 32 := 128#32
  let v592 : BitVec 32 := Scalar.muli v591 c128_i32
  let v593 : BitVec 32 := Scalar.addi v559 v592
  let c3_i32 : BitVec 32 := 3#32
  let v624 : BitVec 32 := Scalar.shrui v2 c3_i32
  let c1_i32_452 : BitVec 32 := 1#32
  let v625 : BitVec 32 := Scalar.andi v624 c1_i32_452
  let c64_i32_453 : BitVec 32 := 64#32
  let v626 : BitVec 32 := Scalar.muli v625 c64_i32_453
  let v627 : BitVec 32 := Scalar.addi v593 v626
  let c4_i32_479 : BitVec 32 := 4#32
  let v658 : BitVec 32 := Scalar.shrui v2 c4_i32_479
  let c1_i32_480 : BitVec 32 := 1#32
  let v659 : BitVec 32 := Scalar.andi v658 c1_i32_480
  let c32_i32_481 : BitVec 32 := 32#32
  let v660 : BitVec 32 := Scalar.muli v659 c32_i32_481
  let v661 : BitVec 32 := Scalar.addi v627 v660
  let c4_i32_507 : BitVec 32 := 4#32
  let v692 : BitVec 32 := Scalar.shrui v2 c4_i32_507
  let c1_i32_508 : BitVec 32 := 1#32
  let v693 : BitVec 32 := Scalar.andi v692 c1_i32_508
  let c32_i32_526 : BitVec 32 := 32#32
  let v712 : BitVec 32 := Scalar.muli v693 c32_i32_526
  let v713 : BitVec 32 := Scalar.subi v661 v712
  let c0_i32_534 : BitVec 32 := 0#32
  ![v713.toNat, 0]
def k0_dev12 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_527 : BitVec 32 := 8#32
  let v714 : BitVec 32 := Scalar.xori v2 c8_i32_527
  let c1_i32_532 : BitVec 32 := 1#32
  let v717 : BitVec 32 := Scalar.muli v714 c1_i32_532
  let v718 : BitVec 32 := Scalar.addi c0_i32_533 v717
  v718.toNat
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_365 : BitVec 32 := 0#32
  let v520 : BitVec 32 := Scalar.muli v2 c0_i32_365
  let c0_i32_367 : BitVec 32 := 0#32
  let v522 : BitVec 32 := Scalar.shrui v2 c0_i32_367
  let c1_i32_368 : BitVec 32 := 1#32
  let v523 : BitVec 32 := Scalar.andi v522 c1_i32_368
  let c512_i32 : BitVec 32 := 512#32
  let v524 : BitVec 32 := Scalar.muli v523 c512_i32
  let v525 : BitVec 32 := Scalar.addi v520 v524
  let c1_i32_396 : BitVec 32 := 1#32
  let v556 : BitVec 32 := Scalar.shrui v2 c1_i32_396
  let c1_i32_397 : BitVec 32 := 1#32
  let v557 : BitVec 32 := Scalar.andi v556 c1_i32_397
  let c256_i32 : BitVec 32 := 256#32
  let v558 : BitVec 32 := Scalar.muli v557 c256_i32
  let v559 : BitVec 32 := Scalar.addi v525 v558
  let c2_i32_425 : BitVec 32 := 2#32
  let v590 : BitVec 32 := Scalar.shrui v2 c2_i32_425
  let c1_i32_426 : BitVec 32 := 1#32
  let v591 : BitVec 32 := Scalar.andi v590 c1_i32_426
  let c128_i32 : BitVec 32 := 128#32
  let v592 : BitVec 32 := Scalar.muli v591 c128_i32
  let v593 : BitVec 32 := Scalar.addi v559 v592
  let c3_i32 : BitVec 32 := 3#32
  let v624 : BitVec 32 := Scalar.shrui v2 c3_i32
  let c1_i32_452 : BitVec 32 := 1#32
  let v625 : BitVec 32 := Scalar.andi v624 c1_i32_452
  let c64_i32_453 : BitVec 32 := 64#32
  let v626 : BitVec 32 := Scalar.muli v625 c64_i32_453
  let v627 : BitVec 32 := Scalar.addi v593 v626
  let c4_i32_479 : BitVec 32 := 4#32
  let v658 : BitVec 32 := Scalar.shrui v2 c4_i32_479
  let c1_i32_480 : BitVec 32 := 1#32
  let v659 : BitVec 32 := Scalar.andi v658 c1_i32_480
  let c32_i32_481 : BitVec 32 := 32#32
  let v660 : BitVec 32 := Scalar.muli v659 c32_i32_481
  let v661 : BitVec 32 := Scalar.addi v627 v660
  let c4_i32_507 : BitVec 32 := 4#32
  let v692 : BitVec 32 := Scalar.shrui v2 c4_i32_507
  let c1_i32_508 : BitVec 32 := 1#32
  let v693 : BitVec 32 := Scalar.andi v692 c1_i32_508
  let c32_i32_526 : BitVec 32 := 32#32
  let v712 : BitVec 32 := Scalar.muli v693 c32_i32_526
  let v713 : BitVec 32 := Scalar.subi v661 v712
  let c3_i32_528 : BitVec 32 := 3#32
  let v715 : BitVec 32 := Scalar.shrui v2 c3_i32_528
  let c1_i32_529 : BitVec 32 := 1#32
  let v716 : BitVec 32 := Scalar.andi v715 c1_i32_529
  let c64_i32_547 : BitVec 32 := 64#32
  let v735 : BitVec 32 := Scalar.muli v716 c64_i32_547
  let v736 : BitVec 32 := Scalar.subi v713 v735
  let c0_i32_555 : BitVec 32 := 0#32
  ![v736.toNat, 0]
def k0_dev13 (d0 : Dev nD) : Nat :=
  let c0_i32_554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_548 : BitVec 32 := 4#32
  let v737 : BitVec 32 := Scalar.xori v2 c4_i32_548
  let c1_i32_553 : BitVec 32 := 1#32
  let v740 : BitVec 32 := Scalar.muli v737 c1_i32_553
  let v741 : BitVec 32 := Scalar.addi c0_i32_554 v740
  v741.toNat
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_365 : BitVec 32 := 0#32
  let v520 : BitVec 32 := Scalar.muli v2 c0_i32_365
  let c0_i32_367 : BitVec 32 := 0#32
  let v522 : BitVec 32 := Scalar.shrui v2 c0_i32_367
  let c1_i32_368 : BitVec 32 := 1#32
  let v523 : BitVec 32 := Scalar.andi v522 c1_i32_368
  let c512_i32 : BitVec 32 := 512#32
  let v524 : BitVec 32 := Scalar.muli v523 c512_i32
  let v525 : BitVec 32 := Scalar.addi v520 v524
  let c1_i32_396 : BitVec 32 := 1#32
  let v556 : BitVec 32 := Scalar.shrui v2 c1_i32_396
  let c1_i32_397 : BitVec 32 := 1#32
  let v557 : BitVec 32 := Scalar.andi v556 c1_i32_397
  let c256_i32 : BitVec 32 := 256#32
  let v558 : BitVec 32 := Scalar.muli v557 c256_i32
  let v559 : BitVec 32 := Scalar.addi v525 v558
  let c2_i32_425 : BitVec 32 := 2#32
  let v590 : BitVec 32 := Scalar.shrui v2 c2_i32_425
  let c1_i32_426 : BitVec 32 := 1#32
  let v591 : BitVec 32 := Scalar.andi v590 c1_i32_426
  let c128_i32 : BitVec 32 := 128#32
  let v592 : BitVec 32 := Scalar.muli v591 c128_i32
  let v593 : BitVec 32 := Scalar.addi v559 v592
  let c3_i32 : BitVec 32 := 3#32
  let v624 : BitVec 32 := Scalar.shrui v2 c3_i32
  let c1_i32_452 : BitVec 32 := 1#32
  let v625 : BitVec 32 := Scalar.andi v624 c1_i32_452
  let c64_i32_453 : BitVec 32 := 64#32
  let v626 : BitVec 32 := Scalar.muli v625 c64_i32_453
  let v627 : BitVec 32 := Scalar.addi v593 v626
  let c4_i32_479 : BitVec 32 := 4#32
  let v658 : BitVec 32 := Scalar.shrui v2 c4_i32_479
  let c1_i32_480 : BitVec 32 := 1#32
  let v659 : BitVec 32 := Scalar.andi v658 c1_i32_480
  let c32_i32_481 : BitVec 32 := 32#32
  let v660 : BitVec 32 := Scalar.muli v659 c32_i32_481
  let v661 : BitVec 32 := Scalar.addi v627 v660
  let c4_i32_507 : BitVec 32 := 4#32
  let v692 : BitVec 32 := Scalar.shrui v2 c4_i32_507
  let c1_i32_508 : BitVec 32 := 1#32
  let v693 : BitVec 32 := Scalar.andi v692 c1_i32_508
  let c32_i32_526 : BitVec 32 := 32#32
  let v712 : BitVec 32 := Scalar.muli v693 c32_i32_526
  let v713 : BitVec 32 := Scalar.subi v661 v712
  let c3_i32_528 : BitVec 32 := 3#32
  let v715 : BitVec 32 := Scalar.shrui v2 c3_i32_528
  let c1_i32_529 : BitVec 32 := 1#32
  let v716 : BitVec 32 := Scalar.andi v715 c1_i32_529
  let c64_i32_547 : BitVec 32 := 64#32
  let v735 : BitVec 32 := Scalar.muli v716 c64_i32_547
  let v736 : BitVec 32 := Scalar.subi v713 v735
  let c2_i32_549 : BitVec 32 := 2#32
  let v738 : BitVec 32 := Scalar.shrui v2 c2_i32_549
  let c1_i32_550 : BitVec 32 := 1#32
  let v739 : BitVec 32 := Scalar.andi v738 c1_i32_550
  let c128_i32_568 : BitVec 32 := 128#32
  let v758 : BitVec 32 := Scalar.muli v739 c128_i32_568
  let v759 : BitVec 32 := Scalar.subi v736 v758
  let c0_i32_576 : BitVec 32 := 0#32
  ![v759.toNat, 0]
def k0_dev14 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_569 : BitVec 32 := 2#32
  let v760 : BitVec 32 := Scalar.xori v2 c2_i32_569
  let c1_i32_574 : BitVec 32 := 1#32
  let v763 : BitVec 32 := Scalar.muli v760 c1_i32_574
  let v764 : BitVec 32 := Scalar.addi c0_i32_575 v763
  v764.toNat
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_365 : BitVec 32 := 0#32
  let v520 : BitVec 32 := Scalar.muli v2 c0_i32_365
  let c0_i32_367 : BitVec 32 := 0#32
  let v522 : BitVec 32 := Scalar.shrui v2 c0_i32_367
  let c1_i32_368 : BitVec 32 := 1#32
  let v523 : BitVec 32 := Scalar.andi v522 c1_i32_368
  let c512_i32 : BitVec 32 := 512#32
  let v524 : BitVec 32 := Scalar.muli v523 c512_i32
  let v525 : BitVec 32 := Scalar.addi v520 v524
  let c1_i32_396 : BitVec 32 := 1#32
  let v556 : BitVec 32 := Scalar.shrui v2 c1_i32_396
  let c1_i32_397 : BitVec 32 := 1#32
  let v557 : BitVec 32 := Scalar.andi v556 c1_i32_397
  let c256_i32 : BitVec 32 := 256#32
  let v558 : BitVec 32 := Scalar.muli v557 c256_i32
  let v559 : BitVec 32 := Scalar.addi v525 v558
  let c2_i32_425 : BitVec 32 := 2#32
  let v590 : BitVec 32 := Scalar.shrui v2 c2_i32_425
  let c1_i32_426 : BitVec 32 := 1#32
  let v591 : BitVec 32 := Scalar.andi v590 c1_i32_426
  let c128_i32 : BitVec 32 := 128#32
  let v592 : BitVec 32 := Scalar.muli v591 c128_i32
  let v593 : BitVec 32 := Scalar.addi v559 v592
  let c3_i32 : BitVec 32 := 3#32
  let v624 : BitVec 32 := Scalar.shrui v2 c3_i32
  let c1_i32_452 : BitVec 32 := 1#32
  let v625 : BitVec 32 := Scalar.andi v624 c1_i32_452
  let c64_i32_453 : BitVec 32 := 64#32
  let v626 : BitVec 32 := Scalar.muli v625 c64_i32_453
  let v627 : BitVec 32 := Scalar.addi v593 v626
  let c4_i32_479 : BitVec 32 := 4#32
  let v658 : BitVec 32 := Scalar.shrui v2 c4_i32_479
  let c1_i32_480 : BitVec 32 := 1#32
  let v659 : BitVec 32 := Scalar.andi v658 c1_i32_480
  let c32_i32_481 : BitVec 32 := 32#32
  let v660 : BitVec 32 := Scalar.muli v659 c32_i32_481
  let v661 : BitVec 32 := Scalar.addi v627 v660
  let c4_i32_507 : BitVec 32 := 4#32
  let v692 : BitVec 32 := Scalar.shrui v2 c4_i32_507
  let c1_i32_508 : BitVec 32 := 1#32
  let v693 : BitVec 32 := Scalar.andi v692 c1_i32_508
  let c32_i32_526 : BitVec 32 := 32#32
  let v712 : BitVec 32 := Scalar.muli v693 c32_i32_526
  let v713 : BitVec 32 := Scalar.subi v661 v712
  let c3_i32_528 : BitVec 32 := 3#32
  let v715 : BitVec 32 := Scalar.shrui v2 c3_i32_528
  let c1_i32_529 : BitVec 32 := 1#32
  let v716 : BitVec 32 := Scalar.andi v715 c1_i32_529
  let c64_i32_547 : BitVec 32 := 64#32
  let v735 : BitVec 32 := Scalar.muli v716 c64_i32_547
  let v736 : BitVec 32 := Scalar.subi v713 v735
  let c2_i32_549 : BitVec 32 := 2#32
  let v738 : BitVec 32 := Scalar.shrui v2 c2_i32_549
  let c1_i32_550 : BitVec 32 := 1#32
  let v739 : BitVec 32 := Scalar.andi v738 c1_i32_550
  let c128_i32_568 : BitVec 32 := 128#32
  let v758 : BitVec 32 := Scalar.muli v739 c128_i32_568
  let v759 : BitVec 32 := Scalar.subi v736 v758
  let c1_i32_570 : BitVec 32 := 1#32
  let v761 : BitVec 32 := Scalar.shrui v2 c1_i32_570
  let c1_i32_571 : BitVec 32 := 1#32
  let v762 : BitVec 32 := Scalar.andi v761 c1_i32_571
  let c256_i32_589 : BitVec 32 := 256#32
  let v781 : BitVec 32 := Scalar.muli v762 c256_i32_589
  let v782 : BitVec 32 := Scalar.subi v759 v781
  let c0_i32_595 : BitVec 32 := 0#32
  ![v782.toNat, 0]
def k0_dev15 (d0 : Dev nD) : Nat :=
  let c0_i32_594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_590 : BitVec 32 := 1#32
  let v783 : BitVec 32 := Scalar.xori v2 c1_i32_590
  let c1_i32_593 : BitVec 32 := 1#32
  let v784 : BitVec 32 := Scalar.muli v783 c1_i32_593
  let v785 : BitVec 32 := Scalar.addi c0_i32_594 v784
  v785.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x16384 : Shape := ⟨2, ![768, 16384]⟩
abbrev S2x512x256x64 : Shape := ⟨4, ![2, 512, 256, 64]⟩
abbrev S16384x768 : Shape := ⟨2, ![16384, 768]⟩
abbrev S2x512x16384 : Shape := ⟨3, ![2, 512, 16384]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x256x512x512 : Shape := ⟨4, ![2, 256, 512, 512]⟩
abbrev S1x1x512x512 : Shape := ⟨4, ![1, 1, 512, 512]⟩
abbrev S2x256x512 : Shape := ⟨3, ![2, 256, 512]⟩
abbrev S2x256x512x1 : Shape := ⟨4, ![2, 256, 512, 1]⟩
abbrev S1x1x512x1 : Shape := ⟨4, ![1, 1, 512, 1]⟩
abbrev S2x256x64x512 : Shape := ⟨4, ![2, 256, 64, 512]⟩

abbrev nBuf : Space → Nat
  | .hbm => 94
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x16384, .bf16⟩
  | .hbm, ⟨2, _⟩ => ⟨S2x512x256x64, .bf16⟩
  | .hbm, ⟨3, _⟩ => ⟨S2x512x256x64, .bf16⟩
  | .hbm, ⟨4, _⟩ => ⟨S16384x768, .bf16⟩
  | .hbm, ⟨5, _⟩ => ⟨S2x512x16384, .f32⟩
  | .hbm, ⟨6, _⟩ => ⟨S2x512x16384, .bf16⟩
  | .hbm, ⟨7, _⟩ => ⟨S2x512x256x64, .bf16⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S512, .i32⟩
  | .hbm, ⟨29, _⟩ => ⟨S_, .i32⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S1x512, .i32⟩
  | .hbm, ⟨48, _⟩ => ⟨S512x512, .i32⟩
  | .hbm, ⟨49, _⟩ => ⟨S512x512, .i32⟩
  | .hbm, ⟨50, _⟩ => ⟨S512x512, .i1⟩
  | .hbm, ⟨51, _⟩ => ⟨S2x256x512x512, .f32⟩
  | .hbm, ⟨52, _⟩ => ⟨S2x256x512x512, .bf16⟩
  | .hbm, ⟨53, _⟩ => ⟨S2x256x512x512, .f32⟩
  | .hbm, ⟨54, _⟩ => ⟨S_, .f32⟩
  | .hbm, ⟨55, _⟩ => ⟨S2x256x512x512, .f32⟩
  | .hbm, ⟨56, _⟩ => ⟨S2x256x512x512, .f32⟩
  | .hbm, ⟨57, _⟩ => ⟨S1x1x512x512, .i1⟩
  | .hbm, ⟨58, _⟩ => ⟨S_, .f32⟩
  | .hbm, ⟨59, _⟩ => ⟨S_, .f32⟩
  | .hbm, ⟨60, _⟩ => ⟨S2x256x512x512, .i1⟩
  | .hbm, ⟨61, _⟩ => ⟨S2x256x512x512, .f32⟩
  | .hbm, ⟨62, _⟩ => ⟨S2x256x512x512, .f32⟩
  | .hbm, ⟨63, _⟩ => ⟨S_, .f32⟩
  | .hbm, ⟨64, _⟩ => ⟨S2x256x512, .f32⟩
  | .hbm, ⟨65, _⟩ => ⟨S2x256x512x1, .f32⟩
  | .hbm, ⟨66, _⟩ => ⟨S2x256x512x512, .f32⟩
  | .hbm, ⟨67, _⟩ => ⟨S2x256x512x512, .f32⟩
  | .hbm, ⟨68, _⟩ => ⟨S2x256x512x512, .f32⟩
  | .hbm, ⟨69, _⟩ => ⟨S_, .i1⟩
  | .hbm, ⟨70, _⟩ => ⟨S512, .i1⟩
  | .hbm, ⟨71, _⟩ => ⟨S1x1x512x1, .i1⟩
  | .hbm, ⟨72, _⟩ => ⟨S_, .f32⟩
  | .hbm, ⟨73, _⟩ => ⟨S2x256x512, .f32⟩
  | .hbm, ⟨74, _⟩ => ⟨S2x256x512x1, .f32⟩
  | .hbm, ⟨75, _⟩ => ⟨S_, .f32⟩
  | .hbm, ⟨76, _⟩ => ⟨S_, .f32⟩
  | .hbm, ⟨77, _⟩ => ⟨S2x256x512x1, .i1⟩
  | .hbm, ⟨78, _⟩ => ⟨S2x256x512x1, .f32⟩
  | .hbm, ⟨79, _⟩ => ⟨S2x256x512x1, .f32⟩
  | .hbm, ⟨80, _⟩ => ⟨S2x256x512x512, .f32⟩
  | .hbm, ⟨81, _⟩ => ⟨S2x256x512x512, .f32⟩
  | .hbm, ⟨82, _⟩ => ⟨S1x1x512x1, .i1⟩
  | .hbm, ⟨83, _⟩ => ⟨S_, .f32⟩
  | .hbm, ⟨84, _⟩ => ⟨S_, .f32⟩
  | .hbm, ⟨85, _⟩ => ⟨S2x256x512x512, .i1⟩
  | .hbm, ⟨86, _⟩ => ⟨S2x256x512x512, .f32⟩
  | .hbm, ⟨87, _⟩ => ⟨S2x256x512x512, .f32⟩
  | .hbm, ⟨88, _⟩ => ⟨S2x512x256x64, .f32⟩
  | .hbm, ⟨89, _⟩ => ⟨S2x256x64x512, .f32⟩
  | .hbm, ⟨90, _⟩ => ⟨S2x512x256x64, .f32⟩
  | .hbm, ⟨91, _⟩ => ⟨S2x512x16384, .f32⟩
  | .hbm, ⟨92, _⟩ => ⟨S16384x768, .f32⟩
  | .hbm, ⟨93, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]
-- ==== Proof.Geometry.lean ====
/-
  The arithmetic of the exchange: which device talks to which at each step, and which rows of the
  accumulator each step keeps, sends and returns.
-/
module

public import proofs.«01_k».proof.Proof.Gen.KernelIdeal

@[expose] public section

noncomputable section

namespace Cert.KernelIdeal.Talk

open Idealize.ShloMosaic Idealize.ShloMosaic.TcCoe
open Cert.KernelIdeal Cert.KernelIdeal.Gen

/-- The device that device `c` exchanges rows with at step `k`: bit `k` of its number flipped. -/
def pr (k : Fin 5) (c : Dev nD) : Dev nD :=
  ⟨c.val ^^^ 2 ^ k.val, by revert k c; decide⟩

/-- Half of the rows that are live at step `k`. -/
def half (k : ℕ) : ℕ := 512 / 2 ^ k

/-- The first row of the block that device `c` still owns before step `k`. -/
def start : ℕ → Dev nD → ℕ
  | 0, _ => 0
  | k + 1, c => start k c + c.val / 2 ^ k % 2 * half k

/-- The first row of the half that device `c` gives away at step `k`. -/
def sendStart (k : ℕ) (c : Dev nD) : ℕ := start k c + (1 - c.val / 2 ^ k % 2) * half k

/-- The first row of the part of the staging buffer that step `k` receives into. -/
def soff (k : ℕ) : ℕ := 1024 - 1024 / 2 ^ k

theorem pr_pr : ∀ (k : Fin 5) (c : Dev nD), pr k (pr k c) = c := by decide

/-- Flipping bit `k` is a permutation of the devices. -/
def prEquiv (k : Fin 5) : Dev nD ≃ Dev nD := ⟨pr k, pr k, pr_pr k, pr_pr k⟩

theorem pr_injective : ∀ (c : Dev nD) (k k' : Fin 5), pr k c = pr k' c → k = k' := by decide

theorem sendStart_eq : ∀ (k : Fin 5) (c : Dev nD), sendStart k c = start (k + 1) (pr k c) := by decide
theorem start_pr : ∀ (k : Fin 5) (c : Dev nD), start k (pr k c) = start k c := by decide
theorem sendStart_pr : ∀ (k : Fin 5) (c : Dev nD), sendStart k (pr k c) = start (k + 1) c := by decide

/-- The kept and the sent half of step `k` lie one after the other in the live block. -/
theorem halves : ∀ (k : Fin 5) (c : Dev nD),
    (start (k + 1) c = start k c ∧ sendStart k c = start k c + half k)
      ∨ (sendStart k c = start k c ∧ start (k + 1) c = start k c + half k) := by decide

theorem half_pos : ∀ k : Fin 5, 0 < half k := by decide
theorem half_succ : ∀ k : Fin 5, half k = 2 * half (k + 1) ∨ k = 4 := by decide
theorem start_le : ∀ (k : Fin 5) (c : Dev nD), start k c + 2 * half k ≤ 1024 := by decide
theorem soff_le : ∀ k : Fin 5, soff k + half k ≤ 992 := by decide
theorem soff_succ : ∀ k : Fin 5, soff k + half k = soff (k + 1) := by decide

theorem dev1 : ∀ c : Dev nD, k0_dev1 c = (pr 0 c).val := by decide
theorem dev2 : ∀ c : Dev nD, k0_dev2 c = (pr 1 c).val := by decide
theorem dev3 : ∀ c : Dev nD, k0_dev3 c = (pr 2 c).val := by decide
theorem dev4 : ∀ c : Dev nD, k0_dev4 c = (pr 3 c).val := by decide
theorem dev5 : ∀ c : Dev nD, k0_dev5 c = (pr 4 c).val := by decide
theorem dev6 : ∀ c : Dev nD, k0_dev6 c = (pr 0 c).val := by decide
theorem dev7 : ∀ c : Dev nD, k0_dev7 c = (pr 1 c).val := by decide
theorem dev8 : ∀ c : Dev nD, k0_dev8 c = (pr 2 c).val := by decide
theorem dev9 : ∀ c : Dev nD, k0_dev9 c = (pr 3 c).val := by decide
theorem dev10 : ∀ c : Dev nD, k0_dev10 c = (pr 4 c).val := by decide
theorem dev11 : ∀ c : Dev nD, k0_dev11 c = (pr 4 c).val := by decide
theorem dev12 : ∀ c : Dev nD, k0_dev12 c = (pr 3 c).val := by decide
theorem dev13 : ∀ c : Dev nD, k0_dev13 c = (pr 2 c).val := by decide
theorem dev14 : ∀ c : Dev nD, k0_dev14 c = (pr 1 c).val := by decide
theorem dev15 : ∀ c : Dev nD, k0_dev15 c = (pr 0 c).val := by decide

theorem off1 : ∀ c : Dev nD, k0_off1 c = ![sendStart 0 c, 0] := by decide
theorem off2 : ∀ c : Dev nD, k0_off2 c = ![start 1 c, 0] := by decide
theorem off3 : ∀ c : Dev nD, k0_off3 c = ![sendStart 1 c, 0] := by decide
theorem off4 : ∀ c : Dev nD, k0_off4 c = ![start 2 c, 0] := by decide
theorem off5 : ∀ c : Dev nD, k0_off5 c = ![sendStart 2 c, 0] := by decide
theorem off6 : ∀ c : Dev nD, k0_off6 c = ![start 3 c, 0] := by decide
theorem off7 : ∀ c : Dev nD, k0_off7 c = ![sendStart 3 c, 0] := by decide
theorem off8 : ∀ c : Dev nD, k0_off8 c = ![start 4 c, 0] := by decide
theorem off9 : ∀ c : Dev nD, k0_off9 c = ![sendStart 4 c, 0] := by decide
theorem off10 : ∀ c : Dev nD, k0_off10 c = ![start 5 c, 0] := by decide
theorem off11 : ∀ c : Dev nD, k0_off11 c = ![start 5 c, 0] := by decide
theorem off12 : ∀ c : Dev nD, k0_off12 c = ![start 4 c, 0] := by decide
theorem off13 : ∀ c : Dev nD, k0_off13 c = ![start 3 c, 0] := by decide
theorem off14 : ∀ c : Dev nD, k0_off14 c = ![start 2 c, 0] := by decide
theorem off15 : ∀ c : Dev nD, k0_off15 c = ![start 1 c, 0] := by decide

end Cert.KernelIdeal.Talk

end
-- ==== Proof.Schedule.lean ====
/-
  The protocol of the exchange: the semaphore cells of every device, what is paid to each of them and
  what the payment hands over, what each device owes and the order in which the cells are waited for.
-/
module

public import proofs.«01_k».proof.Proof.Geometry
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Tactic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The window pipeline's ghost state beside the exchange's, whose duties are named by the step. -/
abbrev UU : Type := UR sig nD τ × URounds (GSem nD τ sig) (Fin 5)

local notation "𝕄" => MT nD τ sig Unit (Elt F) ℕ UU ℕ

abbrev EP : Emb (UR sig nD τ) (MT nD τ sig Unit (Elt F) ℕ UU ℕ) := embL
abbrev ER : Emb (URounds (GSem nD τ sig) (Fin 5)) (MT nD τ sig Unit (Elt F) ℕ UU ℕ) := embR

/-! ## Semaphores -/

/-- The kernel's own DMA semaphores: kind 0 the sends of the reduction, 1 its receives, 2 the sends of
    the gathering, 3 its receives; one of each per step. -/
def osem (p : Fin 4 × Fin 5) : SemLoc sig := .dma ⟨6 + 5 * p.1.val + p.2.val, by
  have := p.1.isLt; have := p.2.isLt; show _ < 26; omega⟩

/-- Which of the kernel's own semaphores a cell is. -/
def dec : SemLoc sig → Option (Fin 4 × Fin 5)
  | .reg _ => none
  | .dma s => if h : 6 ≤ s.val then
      some (⟨(s.val - 6) / 5, by have : s.val < 26 := s.isLt; omega⟩, ⟨(s.val - 6) % 5, Nat.mod_lt _ (by decide)⟩) else none

theorem dec_osem : ∀ p : Fin 4 × Fin 5, dec (osem p) = some p := by decide
theorem osem_injective : Function.Injective osem := fun p q h => by
  have := congrArg dec h; rwa [dec_osem, dec_osem, Option.some.injEq] at this

abbrev barCell (c : Dev nD) : GSem nD τ sig := ((c : Thread nD τ), .reg barrier0)
abbrev cell (i : Fin 4) (k : Fin 5) (c : Dev nD) : GSem nD τ sig := ((c : Thread nD τ), osem (i, k))

/-! ## The rows of the accumulator and of the staging buffer -/

abbrev Acc (F : FTy → Type) : Type := (⟨2, ![1024, 768]⟩ : Shape).Idx → F .f32
abbrev Stg (F : FTy → Type) : Type := (⟨2, ![992, 768]⟩ : Shape).Idx → F .f32

/-- The rows `a, …, a + n - 1` of the accumulator. -/
def accRows (a n : ℕ) : Finset (⟨2, ![1024, 768]⟩ : Shape).Idx :=
  Finset.univ.filter fun i => a ≤ (i 0).val ∧ (i 0).val < a + n
/-- The rows `a, …, a + n - 1` of the staging buffer. -/
def stgRows (a n : ℕ) : Finset (⟨2, ![992, 768]⟩ : Shape).Idx :=
  Finset.univ.filter fun i => a ≤ (i 0).val ∧ (i 0).val < a + n

/-- Device `c` holds these rows of its accumulator, with the contents `f`. -/
abbrev accPts (c : Dev nD) (a n : ℕ) (f : Acc F) : sProp 𝕄 :=
  ((c : Thread nD τ).loc cc0_scratch2) ↦[accRows a n]{fullShare} (show Buf (Elt F) ((c : Thread nD τ).loc cc0_scratch2) from f)
/-- Device `c` holds these rows of its staging buffer, with the contents `f`. -/
abbrev stgPts (c : Dev nD) (a n : ℕ) (f : Stg F) : sProp 𝕄 :=
  ((c : Thread nD τ).loc cc0_scratch3) ↦[stgRows a n]{fullShare} (show Buf (Elt F) ((c : Thread nD τ).loc cc0_scratch3) from f)

/-- Rows of the accumulator as the transfers name them. -/
abbrev accM (n : ℕ) (off : Fin 2 → ℕ) (inb : ∀ a, off a + (⟨2, ![n, 768]⟩ : Shape).size a ≤ S1024x768.size a) :
    Memref sig .tc .vmem ⟨2, ![n, 768]⟩ .f32 :=
  (Memref.whole cc0_scratch2).slice (Rect.unit (s := S1024x768) off (⟨2, ![n, 768]⟩ : Shape).size inb) (fun _ => rfl)
/-- Rows of the staging buffer as the transfers name them. -/
abbrev stgM (n : ℕ) (off : Fin 2 → ℕ) (inb : ∀ a, off a + (⟨2, ![n, 768]⟩ : Shape).size a ≤ S992x768.size a) :
    Memref sig .tc .vmem ⟨2, ![n, 768]⟩ .f32 :=
  (Memref.whole cc0_scratch3).slice (Rect.unit (s := S992x768) off (⟨2, ![n, 768]⟩ : Shape).size inb) (fun _ => rfl)

theorem acc_inb {a n : ℕ} (h : a + n ≤ 1024) : ∀ i, (![a, 0] : Fin 2 → ℕ) i + (⟨2, ![n, 768]⟩ : Shape).size i ≤ S1024x768.size i := by
  intro i; fin_cases i
  · exact h
  · exact le_refl 768
theorem stg_inb {a n : ℕ} (h : a + n ≤ 992) : ∀ i, (![a, 0] : Fin 2 → ℕ) i + (⟨2, ![n, 768]⟩ : Shape).size i ≤ S992x768.size i := by
  intro i; fin_cases i
  · exact h
  · exact le_refl 768

theorem accM_set {n a : ℕ} {off : Fin 2 → ℕ} (h : off = ![a, 0]) (inb) : (accM n off inb).view.set = accRows a n := by
  subst h
  refine (View.set_slice_whole _ _).trans ?_
  ext i
  rw [Rect.mem_set_unit]
  simp only [accRows, Finset.mem_filter, Finset.mem_univ, true_and]
  constructor
  · intro h; exact h 0
  · intro h j; fin_cases j
    · exact h
    · exact ⟨Nat.zero_le _, lt_of_lt_of_eq (i 1).isLt (by rfl)⟩
theorem stgM_set {n a : ℕ} {off : Fin 2 → ℕ} (h : off = ![a, 0]) (inb) : (stgM n off inb).view.set = stgRows a n := by
  subst h
  refine (View.set_slice_whole _ _).trans ?_
  ext i
  rw [Rect.mem_set_unit]
  simp only [stgRows, Finset.mem_filter, Finset.mem_univ, true_and]
  constructor
  · intro h; exact h 0
  · intro h j; fin_cases j
    · exact h
    · exact ⟨Nat.zero_le _, lt_of_lt_of_eq (i 1).isLt (by rfl)⟩

/-! ## The sums -/

/-- The device at the other end of step `k`, for any `k`. -/
def prN (k : ℕ) (c : Dev nD) : Dev nD := if h : k < 5 then pr ⟨k, h⟩ c else c

/-- The accumulator's contents as the reduction goes: `A P 0 c` is the partial product of device `c`,
    and each step adds the contents of the device at the other end. Of `A P k c` only the rows that are
    live before step `k` are ever held. -/
def A (P : Dev nD → Acc F) : ℕ → Dev nD → Acc F
  | 0, c => P c
  | k + 1, c => addf (s := S1024x768) (φ := .f32) (A P k c) (A P k (prN k c))

theorem A_succ (P : Dev nD → Acc F) (k : Fin 5) (c : Dev nD) :
    A P (k.val + 1) c = addf (s := S1024x768) (φ := .f32) (A P k c) (A P k (pr k c)) := by
  show addf _ (A P k.val (prN k.val c)) = _
  rw [show prN k.val c = pr k c from dif_pos k.isLt]

/-- The device that holds row `r` when the reduction is over. -/
def owner (r : ℕ) : Dev nD :=
  ⟨r / 512 % 2 + 2 * (r / 256 % 2) + 4 * (r / 128 % 2) + 8 * (r / 64 % 2) + 16 * (r / 32 % 2), by show _ < 32; omega⟩

theorem owner_start : ∀ (c : Dev nD) (j : Fin 32), owner (start 5 c + j.val) = c := by decide +kernel

/-- The reduced and gathered accumulator: every row as its owner has it. -/
def total (P : Dev nD → Acc F) : Acc F := fun i => A P 5 (owner (i 0).val) i

/-! ## The schedule -/

variable (P : Dev nD → Acc F)

/-- Units of a transfer at step `k`. -/
def N (k : Fin 5) : ℕ := RefSig.tileCredit ⟨2, ![half k, 768]⟩ .f32
theorem N_pos : ∀ k, 0 < N k := by decide

/-- Paid to the barrier cell of `c` by the device at the other end of step `d`: its part of the staging
    buffer, and that its two receive cells of that step are open. -/
def barPay (c : Dev nD) (d : Fin 5) : sProp 𝕄 :=
  iprop((∃ f, stgPts (pr d c) (soff d) (half d) f) ∗ reached ER (cell 1 d (pr d c)) 0 ∗ reached ER (cell 3 d (pr d c)) 0)

/-- What lands in the staging buffer of `c` at step `k`, over whatever was there. -/
def landed (c : Dev nD) (k : Fin 5) (f : Stg F) : Stg F :=
  (stgM (half k) ![soff k, 0] (stg_inb (soff_le k))).view.write (Elt F) f
    ((accM (half k) ![start (k + 1) c, 0] (acc_inb (by
        rcases halves k c with h | h <;> have := start_le k c <;> omega))).view.read (Elt F) (A P k (pr k c))) Finset.univ

/-- Paid by the transfer of the reduction: the part of the staging buffer, written, and the rows of the
    sender's accumulator that were sent. -/
def rsPay (c : Dev nD) (k : Fin 5) : sProp 𝕄 :=
  iprop((∃ f, stgPts c (soff k) (half k) (landed P c k f)) ∗ accPts (pr k c) (start (k + 1) c) (half k) (A P k (pr k c)))
/-- Paid to the sender by the transfer of the gathering: the rows sent. -/
def agsPay (c : Dev nD) (k : Fin 5) : sProp 𝕄 := accPts c (start (k + 1) c) (half k) (total P)
/-- Paid to the receiver by the transfer of the gathering: the rows given away at step `k`, complete. -/
def agPay (c : Dev nD) (k : Fin 5) : sProp 𝕄 := accPts c (sendStart k c) (half k) (total P)

/-- What the kind of semaphore hands over. -/
def kindPay (c : Dev nD) : Fin 4 → Fin 5 → sProp 𝕄
  | 0, _ => iprop(emp)
  | 1, k => rsPay P c k
  | 2, k => agsPay P c k
  | 3, k => agPay P c k

/-- One round: five duties on each barrier cell, one on each of the kernel's own cells. -/
def Rd : Rounds.Schedule (GSem nD τ sig) (Fin 5) 𝕄 where
  duties g r := if r = 0 ∧ g.1.2 = .tc then
      (if g.2 = .reg barrier0 then Finset.univ else if (dec g.2).isSome then {0} else ∅) else ∅
  unitless _ := False
  amount g _ _ := match dec g.2 with
    | some p => N p.2
    | none => 1
  payload g _ d := match dec g.2 with
    | some p => kindPay P g.1.1 p.1 p.2
    | none => barPay g.1.1 d
  amount_pos g _ _ _ := by
    split
    · exact N_pos _
    · exact Nat.one_pos

instance kindPay_storable (c : Dev nD) (i : Fin 4) (k : Fin 5) :
    BI.Storable (upEmb : UEmb _ 𝕄) (kindPay P c i k) := by
  unfold kindPay rsPay agsPay agPay
  split <;> infer_instance

instance Rd_payload_storable (g : GSem nD τ sig) (r : ℕ) (d : Fin 5) :
    BI.Storable (upEmb : UEmb _ 𝕄) ((Rd (F := F) P).payload g r d) := by
  show BI.Storable upEmb (match dec g.2 with | some p => kindPay P g.1.1 p.1 p.2 | none => barPay g.1.1 d)
  split
  · infer_instance
  · unfold barPay; infer_instance

section Sched

variable (c : Dev nD) (i : Fin 4) (k : Fin 5)

theorem osem_ne_bar : osem (i, k) ≠ .reg barrier0 := fun h => by cases h

theorem duties_bar : (Rd P).duties (barCell c) 0 = Finset.univ := by
  dsimp only [Rd]; rw [if_pos ⟨rfl, rfl⟩, if_pos rfl]
theorem duties_cell : (Rd P).duties (cell i k c) 0 = {0} := by
  dsimp only [Rd]; rw [if_pos ⟨rfl, rfl⟩, if_neg (osem_ne_bar i k), dec_osem]; rfl
theorem duties_later (g : GSem nD τ sig) : ∀ r, 1 ≤ r → (Rd P).duties g r = ∅ :=
  fun r hr => by dsimp only [Rd]; rw [if_neg (fun h => by omega)]
theorem amount_bar (d : Fin 5) : (Rd P).amount (barCell c) 0 d = 1 := rfl
theorem amount_cell (d : Fin 5) : (Rd P).amount (cell i k c) 0 d = N k := by
  dsimp only [Rd]; rw [dec_osem]
theorem expect_bar : (Rd P).expect (barCell c) 0 = 5 := by
  unfold Schedule.expect Schedule.amountOf; rw [duties_bar]; rfl
theorem expect_cell : (Rd P).expect (cell i k c) 0 = N k := by
  unfold Schedule.expect Schedule.amountOf; rw [duties_cell, Finset.sum_singleton, amount_cell]
theorem payload_bar (d : Fin 5) : (Rd P).payload (barCell c) 0 d = barPay c d := rfl
theorem payload_cell (d : Fin 5) : (Rd P).payload (cell i k c) 0 d = kindPay P c i k := by
  dsimp only [Rd]; rw [dec_osem]
theorem rest_bar : bigSep ((Rd P).duties (barCell c) 0 \ ∅) (fun u => (Rd P).payload (barCell c) 0 u)
    = iprop(barPay c 0 ∗ barPay c 1 ∗ barPay c 2 ∗ barPay c 3 ∗ barPay c 4) := by
  rw [Finset.sdiff_empty, duties_bar]
  exact bigSep_univ_eq_bigSepL [(0 : Fin 5), 1, 2, 3, 4] (by decide) (by decide) _
theorem rest_cell : bigSep ((Rd P).duties (cell i k c) 0 \ ∅) (fun u => (Rd P).payload (cell i k c) 0 u) = kindPay P c i k := by
  rw [Finset.sdiff_empty, duties_cell, bigSep_singleton, payload_cell]

theorem close (κ : ℕ) (g : GSem nD τ sig) :
    iprop(cellInv ER (Rd P) κ g ∗ atPos ER g (0 + 1) ∅ 0) ⊢ (|={Set.univ}=> semVal g 0 : sProp 𝕄) :=
  Rounds.cell_close ER (Rd P) (Set.mem_univ κ) id (duties_later P g)

end Sched

/-! ## What a device owes, and the order of the waits -/

/-- Everything device `c` pays to others, in the order in which it does. -/
def dues (c : Dev nD) : List (GSem nD τ sig × ℕ) :=
  [(barCell (pr 0 c), 1), (barCell (pr 1 c), 1), (barCell (pr 2 c), 1), (barCell (pr 3 c), 1), (barCell (pr 4 c), 1),
    (cell 1 0 (pr 0 c), N 0), (cell 1 1 (pr 1 c), N 1), (cell 1 2 (pr 2 c), N 2), (cell 1 3 (pr 3 c), N 3), (cell 1 4 (pr 4 c), N 4),
    (cell 3 4 (pr 4 c), N 4), (cell 3 3 (pr 3 c), N 3), (cell 3 2 (pr 2 c), N 2), (cell 3 1 (pr 1 c), N 1), (cell 3 0 (pr 0 c), N 0)]

/-- The tallies of a list of dues. -/
def owed : List (GSem nD τ sig × ℕ) → CellTallies nD τ sig Unit
  | [] => 0
  | p :: l => owed l + tallyAt p.1 () p.2

def L (g : GSem nD τ sig) : Finset Unit := if g.1.2 = .tc then {()} else ∅
/-- Barrier cells at 1, the receives of the reduction at 2 to 6 in the order of the steps, those of the
    gathering at 7 to 11 in the reverse order; all else at 0. -/
def lv (g : GSem nD τ sig) (_ : Unit) : ℕ :=
  if g.2 = .reg barrier0 then 1 else match dec g.2 with
    | some (1, k) => 2 + k.val
    | some (3, k) => 11 - k.val
    | _ => 0

theorem L_of_ne (g : GSem nD τ sig) (h : g.1.2 ≠ .tc) : L g = ∅ := if_neg h
theorem L_tc (c : Dev nD) (sm : SemLoc sig) : L ((c : Thread nD τ), sm) = {()} := if_pos rfl

theorem owed_pos {l : List (GSem nD τ sig × ℕ)} {g : GSem nD τ sig} {u : Unit} (h : 0 < owed l g u) : ∃ n, (g, n) ∈ l := by
  induction l with
  | nil => exact absurd h (Nat.lt_irrefl 0)
  | cons p l ih =>
    unfold owed at h
    rw [Pi.add_apply, Finsupp.add_apply] at h
    rcases Nat.add_pos_iff_pos_or_pos.mp h with h | h
    · obtain ⟨n, hn⟩ := ih h; exact ⟨n, List.mem_cons_of_mem _ hn⟩
    · rw [tallyAt_apply] at h
      split at h
      · next hg => exact ⟨p.2, by rw [hg.1]; exact List.mem_cons_self ..⟩
      · exact absurd h (Nat.lt_irrefl 0)

/-- A cell of level `b` may be waited for while everything owed lies above `b`. -/
theorem mayWait (c : Dev nD) (sm : SemLoc sig) (b : ℕ) (l : List (GSem nD τ sig × ℕ)) (hb : lv ((c : Thread nD τ), sm) () ≤ b)
    (hl : ∀ p ∈ l, p.1.1.2 = .tc ∧ b < lv p.1 ()) :
    (levAts L lv : sProp 𝕄) ⊢ MayWait (c : Thread nD τ) sm () (owed l) :=
  MayOwe.of_cut (L := L) (lev := lv) b (fun p hp => by rw [Finset.mem_singleton.mp hp, L_tc]; exact Finset.mem_singleton_self _)
    (fun g u hg => by
      obtain ⟨n, hn⟩ := owed_pos hg
      unfold L; rw [if_pos (hl _ hn).1]; exact Finset.mem_singleton_self _)
    (fun p hp => by rw [Finset.mem_singleton.mp hp]; exact hb)
    (fun g u hg => by
      obtain ⟨n, hn⟩ := owed_pos hg
      exact (hl _ hn).2)

end Cert.KernelIdeal.Talk

end
-- ==== Proof.Steps.lean ====
/-
  One step of the reduction and one step of the gathering, each once, at any step and device.
-/
module

public import proofs.«01_k».proof.Proof.Schedule

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (P : Dev nD → Acc F)

/-! ## Rows -/

theorem accRows_split {a b n : ℕ} : accRows a (n + b) = accRows a n ∪ accRows (a + n) b := by
  ext i
  simp only [accRows, Finset.mem_filter, Finset.mem_univ, true_and, Finset.mem_union]
  omega
theorem accRows_disjoint {a b n : ℕ} : Disjoint (accRows a n) (accRows (a + n) b) := by
  rw [Finset.disjoint_left]
  intro i
  simp only [accRows, Finset.mem_filter, Finset.mem_univ, true_and]
  omega

theorem accPts_split (c : Dev nD) (a n b : ℕ) (f : Acc F) :
    (accPts c a (n + b) f : sProp 𝕄) ⊣⊢ iprop(accPts c a n f ∗ accPts c (a + n) b f) := by
  unfold accPts
  rw [accRows_split]
  exact pointsTo_union accRows_disjoint

/-- The live block before step `k` is the kept half and the given half. -/
theorem accPts_halves (c : Dev nD) (k : Fin 5) (f : Acc F) :
    (accPts c (start k c) (2 * half k) f : sProp 𝕄)
      ⊣⊢ iprop(accPts c (start (k + 1) c) (half k) f ∗ accPts c (sendStart k c) (half k) f) := by
  rw [Nat.two_mul]
  rcases halves k c with ⟨h1, h2⟩ | ⟨h1, h2⟩ <;> rw [h1, h2]
  · exact accPts_split ..
  · exact (accPts_split ..).trans ⟨sep_comm.1, sep_comm.1⟩

theorem keep_le (k : Fin 5) (c : Dev nD) : start (k + 1) c + half k ≤ 1024 := by
  rcases halves k c with h | h <;> have := start_le k c <;> omega
theorem send_le (k : Fin 5) (c : Dev nD) : sendStart k c + half k ≤ 1024 := by
  rcases halves k c with h | h <;> have := start_le k c <;> omega

theorem accM_read_eq {n : ℕ} {o o' : Fin 2 → ℕ} (h : o = o') (inb inb') (f : Acc F) :
    (accM n o inb).view.read (Elt F) f = (accM n o' inb').view.read (Elt F) f := by subst h; rfl

/-- What lands at the other end of step `k`, spelt from the sender. -/
theorem landed_sent (c : Dev nD) (k : Fin 5) (f : Stg F) {o : Fin 2 → ℕ} (h : o = ![sendStart k c, 0]) (inb) (inb') :
    (stgM (half k) ![soff k, 0] inb').view.write (Elt F) f ((accM (half k) o inb).view.read (Elt F) (A P k c)) Finset.univ
      = landed P (pr k c) k f := by
  unfold landed
  rw [pr_pr, accM_read_eq (by rw [h, sendStart_eq])]

/-- The accumulator's contents at an index of a block of rows. -/
theorem accM_emb {n a : ℕ} (inb) (x : (⟨2, ![n, 768]⟩ : Shape).Idx) (f g : Acc F)
    (h : (accM n ![a, 0] inb).view.read (Elt F) f x = (accM n ![a, 0] inb).view.read (Elt F) g x) :
    f ((accM n ![a, 0] inb).view.emb x) = g ((accM n ![a, 0] inb).view.emb x) := h

/-- Writing a block of rows makes the contents those of any `g` that reads so there. -/
theorem write_eq {n a : ℕ} (inb) (f g : Acc F) (w : (⟨2, ![n, 768]⟩ : Shape).Idx → F .f32)
    (h : (accM n ![a, 0] inb).view.read (Elt F) g = w) :
    ∀ i ∈ accRows a n, (accM n ![a, 0] inb).view.write (Elt F) f w Finset.univ i = g i := by
  intro i hi
  rw [← accM_set rfl inb] at hi
  obtain ⟨x, -, rfl⟩ := Finset.mem_map.mp hi
  have := congrFun (View.read_write_univ (v := (accM n ![a, 0] inb).view) (Val := Elt F) f w) x
  exact accM_emb inb x _ _ (this.trans (congrFun h x).symm)

/-- The sum of two accumulators reads as the sum of what they read. -/
theorem accM_read_addf {n a : ℕ} (inb) (f g : Acc F) :
    (accM n ![a, 0] inb).view.read (Elt F) (addf (s := S1024x768) (φ := .f32) f g)
      = addf (s := ⟨2, ![n, 768]⟩) (φ := .f32) ((accM n ![a, 0] inb).view.read (Elt F) f) ((accM n ![a, 0] inb).view.read (Elt F) g) := rfl

theorem lv_send (c : Dev nD) (k : Fin 5) : lv (cell 0 k c) () = 0 := by
  unfold lv; rw [if_neg (osem_ne_bar 0 k), dec_osem]; rfl
theorem lv_recv (c : Dev nD) (k : Fin 5) : lv (cell 1 k c) () = 2 + k.val := by
  unfold lv; rw [if_neg (osem_ne_bar 1 k), dec_osem]; rfl
theorem lv_gsend (c : Dev nD) (k : Fin 5) : lv (cell 2 k c) () = 0 := by
  unfold lv; rw [if_neg (osem_ne_bar 2 k), dec_osem]; rfl
theorem lv_grecv (c : Dev nD) (k : Fin 5) : lv (cell 3 k c) () = 11 - k.val := by
  unfold lv; rw [if_neg (osem_ne_bar 3 k), dec_osem]; rfl
theorem lv_bar (c : Dev nD) : lv (barCell c) () = 1 := rfl

/-! ## The resources of a step -/

/-- What device `c` holds for the transfers of step `k` through its send cell of kind `s` and its receive
    cell of kind `r`. -/
def link (K : GSem nD τ sig → ℕ) (s r : Fin 4) (c : Dev nD) (k : Fin 5) : sProp 𝕄 :=
  iprop(cellInv ER (Rd P) (K (cell s k c)) (cell s k c) ∗ cellInv ER (Rd P) (K (cell r k c)) (cell r k c)
    ∗ cellInv ER (Rd P) (K (cell r k (pr k c))) (cell r k (pr k c))
    ∗ atPos ER (cell s k c) 0 ∅ 0 ∗ atPos ER (cell r k c) 0 ∅ 0 ∗ reached ER (cell s k c) 0
    ∗ dutyTok ER (cell s k c) 0 0 ∗ dutyTok ER (cell r k (pr k c)) 0 0 ∗ cred (tallyAt (cell r k c) () (N k)))
/-- The two counters back at zero. -/
def unlinked (s r : Fin 4) (c : Dev nD) (k : Fin 5) : sProp 𝕄 :=
  iprop(semVal (cell s k c) 0 ∗ semVal (cell r k c) 0)
/-- What the device still owes. -/
def owing (c : Dev nD) (l : List (GSem nD τ sig × ℕ)) : sProp 𝕄 :=
  iprop(∃ W, owes (c : Thread nD τ) (owed l) W)

variable {P}

set_option maxHeartbeats 1600000 in
/-- A step of the reduction: the given half goes to the device at the other end with the right to use those
    rows, its given half comes into the staging buffer, and the kept half becomes the sum. -/
theorem rs_step (K : GSem nD τ sig → ℕ) (c : Dev nD) (k : Fin 5) {n : ℕ} (hn : n = half k) {p : Dev nD} (hp : p = pr k c)
    {offS offK offG : Fin 2 → ℕ} (hS : offS = ![sendStart k c, 0]) (hK : offK = ![start (k + 1) c, 0]) (hG : offG = ![soff k, 0])
    {inbS inbK inbG} {s1 s2 : DmaSem sig} (h1 : (SemLoc.dma s1 : SemLoc sig) = osem (0, k)) (h2 : (SemLoc.dma s2 : SemLoc sig) = osem (1, k))
    {l : List (GSem nD τ sig × ℕ)} (hl : ∀ q ∈ l, q.1.1.2 = .tc ∧ 2 + k.val < lv q.1 ())
    {pay : Vec F ⟨2, ![n, 768]⟩ .f32 → Vec F ⟨2, ![n, 768]⟩ .f32 → Vec F ⟨2, ![n, 768]⟩ .f32}
    (hpay : ∀ a b, pay a b = addf (s := ⟨2, ![n, 768]⟩) (φ := .f32) a b)
    {hsc} {w1 w2 w3 w4 w5 w6 hsem l1 l2 l3 l4 l5}
    {cont : PUnit → Prog (TpuEff nD τ sig (Elt F) Λ₀ .tc) PUnit} {Q : PUnit → sProp 𝕄} :
    iprop(link P K 0 1 c k ∗ (∃ f, stgPts (pr k c) (soff k) (half k) f) ∗ reached ER (cell 1 k (pr k c)) 0 ∗ levAts L lv
        ∗ accPts c (start k c) (2 * half k) (A P k c) ∗ owing c ((cell 1 k (pr k c), N k) :: l))
      ⊢ iprop(((unlinked 0 1 c k ∗ (∃ f, stgPts c (soff k) (half k) f) ∗ accPts c (start (k + 1) c) (half k) (A P (k + 1) c)
              ∗ accPts (pr k c) (start (k + 1) c) (half k) (A P k (pr k c)) ∗ owing c l)
            -∗ wp frame (wpE (defs₀ (F := F)) 𝒱₀ c none) Set.univ (cont ⟨⟩) Q)
          -∗ wp frame (wpE (defs₀ (F := F)) 𝒱₀ c none) Set.univ
            (.op (.enqueueDma (accM n offS inbS) (.remote (Dev.tc p) (stgM n offG inbG) (.dma s1) hsc) (.dma s2) w1 w2 hsem) fun _ =>
             .op (.waitDma2 s1 (stgM n offG inbG) (accM n offS inbS) w3 w4) fun _ =>
             .op (.waitDma2 s2 (accM n offS inbS) (stgM n offG inbG) w5 w6) fun _ =>
             .op (.load (Memref.whole cc0_scratch2) (Rect.unit (s := S1024x768) offK (⟨2, ![n, 768]⟩ : Shape).size inbK).toLoadRect l1) fun v =>
             .op (.load (Memref.whole cc0_scratch3) (Rect.unit (s := S992x768) offG (⟨2, ![n, 768]⟩ : Shape).size inbG).toLoadRect l2) fun v' =>
             .op (.load (Memref.whole cc0_scratch2) (Rect.unit (s := S1024x768) offK (⟨2, ![n, 768]⟩ : Shape).size inbK).toLoadRect l3) fun _ =>
             .op (.store (Memref.whole cc0_scratch2) (Rect.unit (s := S1024x768) offK (⟨2, ![n, 768]⟩ : Shape).size inbK) (pay v v') Finset.univ l4 l5) cont) Q) := by
  subst hn hp hK hG
  unfold link owing
  iintro ⟨⟨#HIs, #HIr, #HIp, HatS, HatR, #HrS, HtS, HtR, Hc⟩, ⟨%fd, Hstg⟩, #HrP, #Hlev, Hacc, ⟨%W, HO⟩⟩ Hk
  ihave Hacc' := (accPts_halves c k (A P k c)).1 $$ Hacc
  icases Hacc' with ⟨Hkeep, Hsend⟩
  iapply (Rounds.wp_send_landing_pointsTo 𝒱₀ ER (Rd P) (c : Thread nD τ) none (c' := (pr k c : Thread nD τ))
      (src := accM (half k) offS inbS) (dst := stgM (half k) ![soff k, 0] inbG) (sS := .dma s1) (sem := .dma s2) (q := fullShare)
      (fs := A P k c) (fd := fd) (r₁ := 0) (r₂ := 0) (d₁ := 0) (d₂ := 0) (κ₁ := K (cell 0 k c)) (κ₂ := K (cell 1 k (pr k c)))
      (by rw [h1, duties_cell]; exact Finset.mem_singleton_self _) (by rw [h2, duties_cell]; exact Finset.mem_singleton_self _)
      () () (N k) rfl (by rw [h1, amount_cell]) (by rw [h2, amount_cell]) (owed l) (by rw [h2]) (W := W)
      (by rw [h1, payload_cell]; exact BI.Entails.refl _)
      (by
        rw [h2, payload_cell]
        show _ ⊢ rsPay P (pr k c) k
        unfold rsPay
        rw [stgM_set rfl, accM_set hS, landed_sent P c k fd hS, pr_pr, ← sendStart_eq]
        iintro ⟨Ha, Hb⟩
        isplitl [Ha]; · iexists fd; iexact Ha
        iexact Hb)) $$ [Hsend Hstg HO HtS HtR]
  · rw [h1, h2]
    isplitr; · iexact HIs
    isplitr; · iexact HIp
    isplitl [Hsend]; · rw [accM_set hS]; iexact Hsend
    isplitl [Hstg]; · rw [stgM_set rfl]; iexact Hstg
    isplitl [HO]; · iexact HO
    isplitl [HtS]; · iexact HtS
    isplitr; · iexact HrS
    isplitl [HtR]; · iexact HtR
    iexact HrP
  iintro ⟨HcS, HO⟩
  -- the transfer has been sent
  iapply (Rounds.wp_wait_rest_token 𝒱₀ ER (Rd P) (c : Thread nD τ) none (κ := K (cell 0 k c))
      (wpE_waitDma2_eq 𝒱₀ (c : Thread nD τ) none Set.univ) (Set.mem_univ _) () (O := owed l) (W := W) (R := 0) (m := 0) (T := ∅)
      (by rw [h1]; exact (Nat.zero_add _).trans (expect_cell P c 0 k).symm)) $$ [HcS HO HatS]
  · rw [h1]
    isplitr; · iexact HIs
    isplitl [HcS]; · iexact HcS
    isplitl [HO]; · iexact HO
    isplitr
    · iapply (mayWait c (osem (0, k)) 0 l (lv_send c k).le
        (fun q hq => ⟨(hl q hq).1, by have := (hl q hq).2; omega⟩))
      iexact Hlev
    iexact HatS
  iintro ⟨HO, HatS, -, -⟩
  -- the other device's rows have come
  iapply (Rounds.wp_wait_rest_token 𝒱₀ ER (Rd P) (c : Thread nD τ) none (κ := K (cell 1 k c))
      (wpE_waitDma2_eq 𝒱₀ (c : Thread nD τ) none Set.univ) (Set.mem_univ _) () (O := owed l) (R := 0) (m := 0) (T := ∅)
      (by rw [h2]; exact (Nat.zero_add _).trans (expect_cell P c 1 k).symm)) $$ [Hc HO HatR]
  · rw [h2]
    isplitr; · iexact HIr
    isplitl [Hc]; · iexact Hc
    isplitl [HO]; · iexact HO
    isplitr
    · iapply (mayWait c (osem (1, k)) (2 + k.val) l (lv_recv c k).le hl)
      iexact Hlev
    iexact HatR
  rw [h1, h2]
  iintro ⟨HO, HatR, -, Hpay⟩
  ihave Hp := (Entails.of_eq (rest_cell P c 1 k)) $$ Hpay
  unfold kindPay rsPay
  icases Hp with ⟨⟨%fg, Hstg⟩, Hback⟩
  iapply (wp_load_rect 𝒱₀ (c : Thread nD τ) none Set.univ (S := accRows (start (k + 1) c) (half k))
    (f := A P k c) (q := fullShare) (by exact (accM_set rfl inbK).subset)) $$ [Hkeep]
  · iexact Hkeep
  iintro Hkeep
  iapply (wp_load_rect 𝒱₀ (c : Thread nD τ) none Set.univ (S := stgRows (soff k) (half k))
    (f := landed P c k fg) (q := fullShare) (by exact (stgM_set rfl inbG).subset)) $$ [Hstg]
  · iexact Hstg
  iintro Hstg
  iapply (wp_load_rect 𝒱₀ (c : Thread nD τ) none Set.univ (S := accRows (start (k + 1) c) (half k))
    (f := A P k c) (q := fullShare) (by exact (accM_set rfl inbK).subset)) $$ [Hkeep]
  · iexact Hkeep
  iintro Hkeep
  iapply (wp_store 𝒱₀ (c : Thread nD τ) none Set.univ (S := accRows (start (k + 1) c) (half k))
    (f := A P k c) (by exact (accM_set rfl inbK).subset)) $$ [Hkeep]
  · iexact Hkeep
  iintro Hkeep
  imod (close P (K (cell 0 k c)) (cell 0 k c)) $$ [HatS] with Hs0
  · isplitr; · iexact HIs
    iexact HatS
  imod (close P (K (cell 1 k c)) (cell 1 k c)) $$ [HatR] with Hr0
  · isplitr; · iexact HIr
    iexact HatR
  iapply Hk
  isplitl [Hs0 Hr0]; · unfold unlinked; isplitl [Hs0] <;> iassumption
  isplitl [Hstg]; · iexists _; iexact Hstg
  isplitl [Hkeep]
  · iapply (Entails.of_eq (pointsTo_congr (write_eq inbK (A P k c) (A P (k + 1) c) _ (by
      rw [hpay, A_succ, accM_read_addf]
      congr 1
      exact (View.read_write_univ (v := (stgM (half k) ![soff k, 0] inbG).view) (Val := Elt F) fg _).symm)))) $$ Hkeep
  isplitl [Hback]; · iexact Hback
  iexists _; iexact HO

set_option maxHeartbeats 1600000 in
/-- A step of the gathering: the rows that are complete go into the same rows of the device at the other
    end, whose complete rows come into the rows given away at step `k`. -/
theorem ag_step (K : GSem nD τ sig → ℕ) (c : Dev nD) (k : Fin 5) {n : ℕ} (hn : n = half k) {p : Dev nD} (hp : p = pr k c)
    {offS : Fin 2 → ℕ} (hS : offS = ![start (k + 1) c, 0])
    {inbS} {s1 s2 : DmaSem sig} (h1 : (SemLoc.dma s1 : SemLoc sig) = osem (2, k)) (h2 : (SemLoc.dma s2 : SemLoc sig) = osem (3, k))
    {l : List (GSem nD τ sig × ℕ)} (hl : ∀ q ∈ l, q.1.1.2 = .tc ∧ 11 - k.val < lv q.1 ())
    {hsc} {w1 w2 w3 w4 w5 w6 hsem}
    {cont : PUnit → Prog (TpuEff nD τ sig (Elt F) Λ₀ .tc) PUnit} {Q : PUnit → sProp 𝕄} :
    iprop(link P K 2 3 c k ∗ reached ER (cell 3 k (pr k c)) 0 ∗ levAts L lv
        ∗ accPts c (start (k + 1) c) (half k) (total P) ∗ (∃ f, accPts (pr k c) (start (k + 1) c) (half k) f)
        ∗ owing c ((cell 3 k (pr k c), N k) :: l))
      ⊢ iprop(((unlinked 2 3 c k ∗ accPts c (start k c) (2 * half k) (total P) ∗ owing c l)
            -∗ wp frame (wpE (defs₀ (F := F)) 𝒱₀ c none) Set.univ (cont ⟨⟩) Q)
          -∗ wp frame (wpE (defs₀ (F := F)) 𝒱₀ c none) Set.univ
            (.op (.enqueueDma (accM n offS inbS) (.remote (Dev.tc p) (accM n offS inbS) (.dma s1) hsc) (.dma s2) w1 w2 hsem) fun _ =>
             .op (.waitDma2 s1 (accM n offS inbS) (accM n offS inbS) w3 w4) fun _ =>
             .op (.waitDma2 s2 (accM n offS inbS) (accM n offS inbS) w5 w6) cont) Q) := by
  subst hn hp hS
  unfold link owing
  iintro ⟨⟨#HIs, #HIr, #HIp, HatS, HatR, #HrS, HtS, HtR, Hc⟩, #HrP, #Hlev, Hacc, ⟨%fd, Hdst⟩, ⟨%W, HO⟩⟩ Hk
  iapply (Rounds.wp_send_pointsTo 𝒱₀ ER (Rd P) (c : Thread nD τ) none (c' := (pr k c : Thread nD τ))
      (src := accM (half k) ![start (k + 1) c, 0] inbS) (dst := accM (half k) ![start (k + 1) c, 0] inbS) (sS := .dma s1) (sem := .dma s2) (q := fullShare)
      (fs := total P) (fd := fd) (r₁ := 0) (r₂ := 0) (d₁ := 0) (d₂ := 0) (κ₁ := K (cell 2 k c)) (κ₂ := K (cell 3 k (pr k c)))
      (by rw [h1, duties_cell]; exact Finset.mem_singleton_self _) (by rw [h2, duties_cell]; exact Finset.mem_singleton_self _)
      () () (N k) rfl (by rw [h1, amount_cell]) (by rw [h2, amount_cell]) (owed l) (by rw [h2]) (W := W)
      (by
        rw [h1, payload_cell]
        show _ ⊢ agsPay P c k
        unfold agsPay
        rw [accM_set rfl])
      (by
        rw [h2, payload_cell]
        show _ ⊢ agPay P (pr k c) k
        unfold agPay
        rw [accM_set rfl, sendStart_pr]
        exact Entails.of_eq (pointsTo_congr (write_eq inbS fd (total P) _ rfl)))) $$ [Hacc Hdst HO HtS HtR]
  · rw [h1, h2]
    isplitr; · iexact HIs
    isplitr; · iexact HIp
    isplitl [Hacc]; · rw [accM_set rfl]; iexact Hacc
    isplitl [Hdst]; · rw [accM_set rfl]; iexact Hdst
    isplitl [HO]; · iexact HO
    isplitl [HtS]; · iexact HtS
    isplitr; · iexact HrS
    isplitl [HtR]; · iexact HtR
    iexact HrP
  iintro ⟨HcS, HO⟩
  iapply (Rounds.wp_wait_rest_token 𝒱₀ ER (Rd P) (c : Thread nD τ) none (κ := K (cell 2 k c))
      (wpE_waitDma2_eq 𝒱₀ (c : Thread nD τ) none Set.univ) (Set.mem_univ _) () (O := owed l) (W := W) (R := 0) (m := 0) (T := ∅)
      (by rw [h1]; exact (Nat.zero_add _).trans (expect_cell P c 2 k).symm)) $$ [HcS HO HatS]
  · rw [h1]
    isplitr; · iexact HIs
    isplitl [HcS]; · iexact HcS
    isplitl [HO]; · iexact HO
    isplitr
    · iapply (mayWait c (osem (2, k)) 0 l (lv_gsend c k).le
        (fun q hq => ⟨(hl q hq).1, by have := (hl q hq).2; omega⟩))
      iexact Hlev
    iexact HatS
  rw [h1]
  iintro ⟨HO, HatS, -, Hpay⟩
  ihave Hacc := (Entails.of_eq (rest_cell P c 2 k)) $$ Hpay
  iapply (Rounds.wp_wait_rest_token 𝒱₀ ER (Rd P) (c : Thread nD τ) none (κ := K (cell 3 k c))
      (wpE_waitDma2_eq 𝒱₀ (c : Thread nD τ) none Set.univ) (Set.mem_univ _) () (O := owed l) (R := 0) (m := 0) (T := ∅)
      (by rw [h2]; exact (Nat.zero_add _).trans (expect_cell P c 3 k).symm)) $$ [Hc HO HatR]
  · rw [h2]
    isplitr; · iexact HIr
    isplitl [Hc]; · iexact Hc
    isplitl [HO]; · iexact HO
    isplitr
    · iapply (mayWait c (osem (3, k)) (11 - k.val) l (lv_grecv c k).le hl)
      iexact Hlev
    iexact HatR
  rw [h2]
  iintro ⟨HO, HatR, -, Hpay⟩
  ihave Hgot := (Entails.of_eq (rest_cell P c 3 k)) $$ Hpay
  unfold kindPay agsPay agPay
  imod (close P (K (cell 2 k c)) (cell 2 k c)) $$ [HatS] with Hs0
  · isplitr; · iexact HIs
    iexact HatS
  imod (close P (K (cell 3 k c)) (cell 3 k c)) $$ [HatR] with Hr0
  · isplitr; · iexact HIr
    iexact HatR
  iapply Hk
  isplitl [Hs0 Hr0]; · unfold unlinked; isplitl [Hs0] <;> iassumption
  isplitl [Hacc Hgot]
  · iapply (accPts_halves c k (total P)).2
    isplitl [Hacc] <;> iassumption
  iexists _; iexact HO

end Cert.KernelIdeal.Talk

end
-- ==== Proof.Attention.lean ====
/-
  The block of the sum that one device computes, as one function of its windows' contents:
  the projected queries, each head's masked softmax attention, and the contexts times the device's
  rows of the output weights. The vectors the body stores piece by piece are blocks of it.
-/
module

public import proofs.«01_k».proof.Proof.Gen.KernelIdeal.Skeleton
public import Idealize.ShloMosaic.Lib.PointwiseCore
public import Idealize.ShloMosaic.Lib.Exec.Geometry

@[expose] public section

noncomputable section

namespace Cert.KernelIdeal.Talk

open Idealize.ShloMosaic
open Cert.KernelIdeal Cert.KernelIdeal.Gen

variable {F : FTy → Type} [FloatOps F]

/-- Which keys a query sees: those of its own block of 64 positions and of the blocks before it. -/
def mask : IVec S512x512 1 := k0_pay8 k0_pay7

/-- One head: the queries against the keys, scaled and masked, the softmax of each row, and the
    values weighted by it. -/
def head (q k v : FVec F S512x64 .bf16) : FVec F S512x64 .bf16 :=
  have s : FVec F S512x512 .f32 := matmul dot_S512x64_S512x64_S512x512_1_1_0_0_n_n none q k (constant S512x512 .f32 0x00000000#32)
  have s' : FVec F S512x512 .f32 := select mask (mulf s (broadcast S512x512 (Scalar.ofBits .f32 0x3E000000#32))) (broadcast S512x512 (Scalar.ofBits .f32 0xCE6E6B28#32))
  have m : FVec F S512 .f32 := multiReduction .maximumf [1] S512 s' 0xFF800000#32 reduces_S512x512_S512 (.inl rfl) rfl
  have w : FVec F S512x512 .f32 := exp (subf s' (broadcastTo S512x512 (shapeCast S512x1 m shapeCasts_S512_S512x1) broadcasts_S512x1_S512x512))
  have t : FVec F S512 .f32 := multiReduction .add [1] S512 w 0x00000000#32 reduces_S512x512_S512 (.inl rfl) rfl
  have p : FVec F S512x512 .f32 := divf w (broadcastTo S512x512 (shapeCast S512x1 t shapeCasts_S512_S512x1) broadcasts_S512x1_S512x512)
  truncf .bf16 (matmul dot_S512x512_S512x64_S512x64_1_0_0_1_n_n none (truncf .bf16 p bitsLt_bf16_f32) v (constant S512x64 .f32 0x00000000#32)) bitsLt_bf16_f32

variable (x : Vec F S2x512x768 .bf16) (wq : Vec F S768x512 .bf16) (k v : Vec F S2x8x512x64 .bf16) (wo : Vec F S512x768 .bf16)

/-- Batch `b` of the activations. -/
def xRows (b : Fin 2) : FVec F S512x768 .bf16 := fun i => x (ix3 b (i 0) (i 1))

/-- Batch `b`'s projected queries, all eight heads side by side. -/
def queries (b : Fin 2) : FVec F S512x512 .bf16 :=
  truncf .bf16 (matmul dot_S512x768_S768x512_S512x512_1_0_0_1_n_n none (xRows x b) wq (constant S512x512 .f32 0x00000000#32)) bitsLt_bf16_f32

/-- Head `h` of an array of queries: 64 of its columns. -/
def qHead (q : FVec F S512x512 .bf16) (h : Fin 8) : FVec F S512x64 .bf16 := fun i => q (ix2 (i 0) ⟨64 * h.val + (i 1).val, by have := (i 1).isLt; simp at this; omega⟩)

/-- Batch `b`, head `h` of the keys or the values. -/
def kvHead (b : Fin 2) (h : Fin 8) : FVec F S512x64 .bf16 := fun i => k (ix4 b h (i 0) (i 1))

/-- Batch `b`, head `h` of the contexts. -/
def context (b : Fin 2) (h : Fin 8) : FVec F S512x64 .bf16 := head (qHead (queries x wq b) h) (kvHead k b h) (kvHead v b h)

/-- Batch `b`'s contexts, all eight heads side by side. -/
def contexts (b : Fin 2) : FVec F S512x512 .bf16 := fun i =>
  context x wq k v b ⟨(i 1).val / 64, by have := (i 1).isLt; simp at this; omega⟩ (ix2 (i 0) ⟨(i 1).val % 64, by omega⟩)

/-- The device's block of the sum: each batch's contexts times the device's rows of the output weights. -/
def product (b : Fin 2) : FVec F S512x768 .f32 :=
  matmul dot_S512x512_S512x768_S512x768_1_0_0_1_n_n none (contexts x wq k v b) wo (constant S512x768 .f32 0x00000000#32)

/-- … the two batches' rows below each other, as the accumulator holds them. -/
def partialSum : Vec F S1024x768 .f32 := fun i =>
  product x wq k v wo ⟨(i 0).val / 512, by have := (i 0).isLt; simp at this; omega⟩ (ix2 ⟨(i 0).val % 512, by omega⟩ (i 1))

/-! ## The loads -/

theorem cast_x (y : Vec F S1x512x768 .bf16) (j : S512x768.Idx) :
    shapeCast S512x768 y shapeCasts_S1x512x768_S512x768 j = y (ix3 0 (j 0) (j 1)) := by
  pointwise []

/-- One batch of the activations, as the body loads it. -/
theorem load_x (b : Fin 2) (inb) :
    shapeCast S512x768 (View.readAt (Elt F) (Memref.whole cc0_stg0_0).view (Rect.unit (s := S2x512x768) ![b.val, 0, 0] S1x512x768.size inb).toLoadRect x) shapeCasts_S1x512x768_S512x768
      = xRows x b := by
  funext j
  rw [cast_x]
  refine congrArg x (funext fun (a : Fin 3) => Fin.ext ?_)
  match a with
  | 0 => exact Nat.add_zero _
  | 1 => exact (Nat.zero_add _).trans (Nat.one_mul _)
  | 2 => exact (Nat.zero_add _).trans (Nat.one_mul _)

/-- The query weights, as the body loads them. -/
theorem load_wq (inb) :
    shapeCast S768x512 (View.readAt (Elt F) (Memref.whole cc0_stg1_0).view (Rect.unit (s := S768x512) ![0, 0] S768x512.size inb).toLoadRect wq) shapeCasts_S768x512_S768x512
      = wq := by
  refine (shapeCast_self ..).trans (funext fun j => ?_)
  refine congrArg wq (funext fun (a : Fin 2) => Fin.ext ?_)
  match a with
  | 0 => exact (Nat.zero_add _).trans (Nat.one_mul _)
  | 1 => exact (Nat.zero_add _).trans (Nat.one_mul _)

/-- The output weights, as the body loads them. -/
theorem load_wo (inb) :
    shapeCast S512x768 (View.readAt (Elt F) (Memref.whole cc0_stg4_0).view (Rect.unit (s := S512x768) ![0, 0] S512x768.size inb).toLoadRect wo) shapeCasts_S512x768_S512x768
      = wo := by
  refine (shapeCast_self ..).trans (funext fun j => ?_)
  refine congrArg wo (funext fun (a : Fin 2) => Fin.ext ?_)
  match a with
  | 0 => exact (Nat.zero_add _).trans (Nat.one_mul _)
  | 1 => exact (Nat.zero_add _).trans (Nat.one_mul _)

theorem cast_kv (y : Vec F S1x1x512x64 .bf16) (j : S512x64.Idx) :
    shapeCast S512x64 y shapeCasts_S1x1x512x64_S512x64 j = y (ix4 0 0 (j 0) (j 1)) := by
  pointwise []

/-- One head of the keys, as the body loads it. -/
theorem load_k (b : Fin 2) (h : Fin 8) (inb) :
    shapeCast S512x64 (View.readAt (Elt F) (Memref.whole cc0_stg2_0).view (Rect.unit (s := S2x8x512x64) ![b.val, h.val, 0, 0] S1x1x512x64.size inb).toLoadRect k) shapeCasts_S1x1x512x64_S512x64
      = kvHead k b h := by
  funext j
  rw [cast_kv]
  refine congrArg k (funext fun (a : Fin 4) => Fin.ext ?_)
  match a with
  | 0 => exact Nat.add_zero _
  | 1 => exact Nat.add_zero _
  | 2 => exact (Nat.zero_add _).trans (Nat.one_mul _)
  | 3 => exact (Nat.zero_add _).trans (Nat.one_mul _)

/-- One head of the values, as the body loads it. -/
theorem load_v (b : Fin 2) (h : Fin 8) (inb) :
    shapeCast S512x64 (View.readAt (Elt F) (Memref.whole cc0_stg3_0).view (Rect.unit (s := S2x8x512x64) ![b.val, h.val, 0, 0] S1x1x512x64.size inb).toLoadRect v) shapeCasts_S1x1x512x64_S512x64
      = kvHead v b h :=
  load_k v b h inb

/-! ## The pieces -/

theorem cast_q (y : Vec F S1x512x64 .bf16) (j : S512x64.Idx) :
    shapeCast S512x64 y shapeCasts_S1x512x64_S512x64 j = y (ix3 0 (j 0) (j 1)) := by
  pointwise []
theorem cast_qs (y : FVec F S512x64 .bf16) (j : S1x512x64.Idx) :
    shapeCast S1x512x64 y shapeCasts_S512x64_S1x512x64 j = y (ix2 (j 1) (j 2)) := by
  pointwise []
theorem cast_m (y : FVec F S512x512 .bf16) (j : S1x512x512.Idx) :
    shapeCast S1x512x512 y shapeCasts_S512x512_S1x512x512 j = y (ix2 (j 1) (j 2)) := by
  pointwise []
theorem cast_ms (y : Vec F S1x512x512 .bf16) (j : S512x512.Idx) :
    shapeCast S512x512 y shapeCasts_S1x512x512_S512x512 j = y (ix3 0 (j 0) (j 1)) := by
  pointwise []

/-- The two batches' matrices, stacked. -/
def stack (q : Fin 2 → FVec F S512x512 .bf16) : Vec F S2x512x512 .bf16 := fun i => q (i 0) (ix2 (i 1) (i 2))

/-- A batch's queries stored as one piece are that piece of the stack. -/
theorem piece_q (q : Fin 2 → FVec F S512x512 .bf16) (b : Fin 2) (inb) (x : S1x512x512.Idx) :
    shapeCast S1x512x512 (q b) shapeCasts_S512x512_S1x512x512 x
      = stack q ((Rect.unit (s := S2x512x512) ![b.val, 0, 0] S1x512x512.size inb).emb x) := by
  have h0 : (Rect.unit (s := S2x512x512) ![b.val, 0, 0] S1x512x512.size inb).emb x 0 = b :=
    Fin.ext (by show b.val + 1 * (x 0).val = b.val; have := (x 0).isLt; simp at this; omega)
  have h1 : (Rect.unit (s := S2x512x512) ![b.val, 0, 0] S1x512x512.size inb).emb x 1 = x 1 :=
    Fin.ext ((Nat.zero_add _).trans (Nat.one_mul _))
  have h2 : (Rect.unit (s := S2x512x512) ![b.val, 0, 0] S1x512x512.size inb).emb x 2 = x 2 :=
    Fin.ext ((Nat.zero_add _).trans (Nat.one_mul _))
  rw [cast_m]
  unfold stack
  rw [h0, h1, h2]

/-- A batch's piece of the queries from its two loads. -/
theorem piece_x (b : Fin 2) {o o' : Fin 3 → ℕ} (inb inbx inbw) (ho : o = ![b.val, 0, 0]) (ho' : o' = ![b.val, 0, 0]) (y : S1x512x512.Idx) :
    shapeCast S1x512x512 (truncf .bf16 (matmul dot_S512x768_S768x512_S512x512_1_0_0_1_n_n none
        (shapeCast S512x768 (View.readAt (Elt F) (Memref.whole cc0_stg0_0).view (Rect.unit (s := S2x512x768) o' S1x512x768.size inbx).toLoadRect x) shapeCasts_S1x512x768_S512x768)
        (shapeCast S768x512 (View.readAt (Elt F) (Memref.whole cc0_stg1_0).view (Rect.unit (s := S768x512) ![0, 0] S768x512.size inbw).toLoadRect wq) shapeCasts_S768x512_S768x512)
        (constant S512x512 .f32 0x00000000#32)) bitsLt_bf16_f32) shapeCasts_S512x512_S1x512x512 y
      = stack (queries x wq) ((Rect.unit (s := S2x512x512) o S1x512x512.size inb).emb y) := by
  subst ho ho'
  rw [load_x, load_wq]
  exact piece_q (queries x wq) b inb y

/-- A head's contexts stored as one piece are that piece of the stack. -/
theorem piece_c (b : Fin 2) (h : Fin 8) (inb) (y : S1x512x64.Idx) :
    shapeCast S1x512x64 (context x wq k v b h) shapeCasts_S512x64_S1x512x64 y
      = stack (contexts x wq k v) ((Rect.unit (s := S2x512x512) ![b.val, 0, 64 * h.val] S1x512x64.size inb).emb y) := by
  have hy := (y 2).isLt
  have h0 : (Rect.unit (s := S2x512x512) ![b.val, 0, 64 * h.val] S1x512x64.size inb).emb y 0 = b :=
    Fin.ext (by show b.val + 1 * (y 0).val = b.val; have := (y 0).isLt; simp at this; omega)
  have h1 : (Rect.unit (s := S2x512x512) ![b.val, 0, 64 * h.val] S1x512x64.size inb).emb y 1 = y 1 :=
    Fin.ext ((Nat.zero_add _).trans (Nat.one_mul _))
  have h2 : ((Rect.unit (s := S2x512x512) ![b.val, 0, 64 * h.val] S1x512x64.size inb).emb y 2).val = 64 * h.val + (y 2).val :=
    (congrArg (64 * h.val + ·) (Nat.one_mul _))
  rw [cast_qs]
  unfold stack contexts
  rw [h0, h1]
  have e1 : (⟨((Rect.unit (s := S2x512x512) ![b.val, 0, 64 * h.val] S1x512x64.size inb).emb y 2).val / 64, by rw [h2]; simp at hy; omega⟩ : Fin 8) = h :=
    Fin.ext (by show _ / 64 = _; rw [h2]; simp at hy; omega)
  have e2 : (⟨((Rect.unit (s := S2x512x512) ![b.val, 0, 64 * h.val] S1x512x64.size inb).emb y 2).val % 64, by omega⟩ : Fin 64) = y 2 :=
    Fin.ext (by show _ % 64 = _; rw [h2]; simp at hy; omega)
  exact congrArg₂ (fun a d => context x wq k v b a (ix2 (y 1) d)) e1.symm e2.symm

/-- What covering pieces of one function leave, read through a box. -/
theorem readCov_pieces {κ : Kind} {sp : Space} {s : Shape} {e : EltTy} (w : View sig κ sp s e) (L : List (View.Piece (Elt F) s e)) (G : s.Idx → Elt F e)
    (hG : ∀ p ∈ L, ∀ x : p.1.shape.Idx, p.2 x = G (p.1.emb x)) (hc : ∀ y, ∃ p ∈ L, y ∈ p.1.set) (B : LoadRect s) :
    w.readCov L B = fun j => G (B.idx j) :=
  funext fun j => w.read_writes_apply_of_pieces _ G L hG _ (hc _)

/-- A head's queries out of the stack. -/
theorem read_q (q : Fin 2 → FVec F S512x512 .bf16) (b : Fin 2) (h : Fin 8) (inb) :
    shapeCast S512x64 (fun j => stack q ((Rect.unit (s := S2x512x512) ![b.val, 0, 64 * h.val] S1x512x64.size inb).toLoadRect.idx j)) shapeCasts_S1x512x64_S512x64
      = qHead (q b) h := by
  funext j
  refine (cast_q _ j).trans ?_
  refine congrArg₂ (fun b i => q b i) (Fin.ext (Nat.add_zero _)) (funext fun (a : Fin 2) => Fin.ext ?_)
  match a with
  | 0 => exact (Nat.zero_add _).trans (Nat.one_mul _)
  | 1 => exact congrArg (64 * h.val + ·) (Nat.one_mul _)

/-- A batch's contexts out of the stack. -/
theorem read_c (q : Fin 2 → FVec F S512x512 .bf16) (b : Fin 2) (inb) :
    shapeCast S512x512 (fun j => stack q ((Rect.unit (s := S2x512x512) ![b.val, 0, 0] S1x512x512.size inb).toLoadRect.idx j)) shapeCasts_S1x512x512_S512x512
      = q b := by
  funext j
  refine (cast_ms _ j).trans ?_
  refine congrArg₂ (fun b i => q b i) (Fin.ext (Nat.add_zero _)) (funext fun (a : Fin 2) => Fin.ext ?_)
  match a with
  | 0 => exact (Nat.zero_add _).trans (Nat.one_mul _)
  | 1 => exact (Nat.zero_add _).trans (Nat.one_mul _)

theorem inb_head (b : Fin 2) (h : Fin 8) : ∀ a, (![b.val, 0, 64 * h.val] : Fin 3 → ℕ) a + S1x512x64.size a ≤ S2x512x512.size a := by
  revert b h; decide
theorem inb_kv (b : Fin 2) (h : Fin 8) : ∀ a, (![b.val, h.val, 0, 0] : Fin 4 → ℕ) a + S1x1x512x64.size a ≤ S2x8x512x64.size a := by
  revert b h; decide

/-- A head's piece from its three loads. -/
theorem piece_head (b : Fin 2) (h : Fin 8) (L : List (View.Piece (Elt F) S2x512x512 .bf16))
    (hL : ∀ p ∈ L, ∀ y : p.1.shape.Idx, p.2 y = stack (queries x wq) (p.1.emb y)) (hc : ∀ y, ∃ p ∈ L, y ∈ p.1.set) (y : S1x512x64.Idx) :
    shapeCast S1x512x64 (head
        (shapeCast S512x64 ((Memref.whole cc0_scratch0).view.readCov L (Rect.unit (s := S2x512x512) ![b.val, 0, 64 * h.val] S1x512x64.size (inb_head b h)).toLoadRect) shapeCasts_S1x512x64_S512x64)
        (shapeCast S512x64 (View.readAt (Elt F) (Memref.whole cc0_stg2_0).view (Rect.unit (s := S2x8x512x64) ![b.val, h.val, 0, 0] S1x1x512x64.size (inb_kv b h)).toLoadRect k) shapeCasts_S1x1x512x64_S512x64)
        (shapeCast S512x64 (View.readAt (Elt F) (Memref.whole cc0_stg3_0).view (Rect.unit (s := S2x8x512x64) ![b.val, h.val, 0, 0] S1x1x512x64.size (inb_kv b h)).toLoadRect v) shapeCasts_S1x1x512x64_S512x64))
        shapeCasts_S512x64_S1x512x64 y
      = stack (contexts x wq k v) ((Rect.unit (s := S2x512x512) ![b.val, 0, 64 * h.val] S1x512x64.size (inb_head b h)).emb y) := by
  rw [readCov_pieces _ L _ hL hc]
  refine Eq.trans ?_ (piece_c x wq k v b h (inb_head b h) y)
  exact congrArg (fun z => shapeCast S1x512x64 z shapeCasts_S512x64_S1x512x64 y)
    (congr (congrArg₂ head (read_q (queries x wq) b h (inb_head b h)) (load_k k b h (inb_kv b h))) (load_v v b h (inb_kv b h)))

theorem inb_stack (b : Fin 2) : ∀ a, (![b.val, 0, 0] : Fin 3 → ℕ) a + S1x512x512.size a ≤ S2x512x512.size a := by
  revert b; decide
theorem inb_acc (b : Fin 2) : ∀ a, (![512 * b.val, 0] : Fin 2 → ℕ) a + S512x768.size a ≤ S1024x768.size a := by
  revert b; decide

/-- A batch's block of the sum, from its two loads, as a piece of the accumulator. -/
theorem piece_p (b : Fin 2) (L : List (View.Piece (Elt F) S2x512x512 .bf16))
    (hL : ∀ p ∈ L, ∀ y : p.1.shape.Idx, p.2 y = stack (contexts x wq k v) (p.1.emb y)) (hc : ∀ y, ∃ p ∈ L, y ∈ p.1.set) (y : S512x768.Idx) :
    shapeCast S512x768 (matmul dot_S512x512_S512x768_S512x768_1_0_0_1_n_n none
        (shapeCast S512x512 ((Memref.whole cc0_scratch1).view.readCov L (Rect.unit (s := S2x512x512) ![b.val, 0, 0] S1x512x512.size (inb_stack b)).toLoadRect) shapeCasts_S1x512x512_S512x512)
        (shapeCast S512x768 (View.readAt (Elt F) (Memref.whole cc0_stg4_0).view (Rect.unit (s := S512x768) ![0, 0] S512x768.size inb_S512x768_S512x768_0_0).toLoadRect wo) shapeCasts_S512x768_S512x768)
        (constant S512x768 .f32 0x00000000#32)) shapeCasts_S512x768_S512x768 y
      = partialSum x wq k v wo ((Rect.unit (s := S1024x768) ![512 * b.val, 0] S512x768.size (inb_acc b)).emb y) := by
  have hy : (y 0).val < 512 := (y 0).isLt
  have h0 : ((Rect.unit (s := S1024x768) ![512 * b.val, 0] S512x768.size (inb_acc b)).emb y 0).val = 512 * b.val + (y 0).val :=
    congrArg (512 * b.val + ·) (Nat.one_mul _)
  have h1 : (Rect.unit (s := S1024x768) ![512 * b.val, 0] S512x768.size (inb_acc b)).emb y 1 = y 1 :=
    Fin.ext ((Nat.zero_add _).trans (Nat.one_mul _))
  refine (congrFun (shapeCast_self ..) y).trans ?_
  rw [readCov_pieces _ L _ hL hc, read_c, load_wo]
  unfold partialSum
  rw [h1]
  have e1 : b = (⟨((Rect.unit (s := S1024x768) ![512 * b.val, 0] S512x768.size (inb_acc b)).emb y 0).val / 512, by rw [h0]; omega⟩ : Fin 2) :=
    Fin.ext (by show _ = _ / 512; rw [h0]; omega)
  have e2 : y 0 = (⟨((Rect.unit (s := S1024x768) ![512 * b.val, 0] S512x768.size (inb_acc b)).emb y 0).val % 512, by omega⟩ : Fin 512) :=
    Fin.ext (by show _ = _ % 512; rw [h0]; omega)
  refine Eq.trans ?_ (congrArg₂ (fun a d => product x wq k v wo a (ix2 d (y 1))) e1 e2)
  rw [ix2_eta]
  rfl

/-- Covering pieces of one function leave that function. -/
theorem writes_pieces (f : (cc0_scratch2 : Ref sig .tc).ty.Contents (Elt F)) (L : List (View.Piece (Elt F) S1024x768 .f32)) (G : Vec F S1024x768 .f32)
    (hG : ∀ p ∈ L, ∀ x : p.1.shape.Idx, p.2 x = G (p.1.emb x)) (hc : ∀ y, ∃ p ∈ L, y ∈ p.1.set) :
    (Memref.whole cc0_scratch2).view.writes (Elt F) f L = G :=
  funext fun j => View.read_writes_apply_of_pieces (Memref.whole cc0_scratch2).view f G L hG j (hc _)

end Cert.KernelIdeal.Talk
end
-- ==== Proof.Compute.lean ====
/-
  The attention of one device: from its windows' contents to the block of the sum it adds.
-/
module

public import proofs.«01_k».proof.Proof.Schedule
public import proofs.«01_k».proof.Proof.Attention
public import proofs.«01_k».proof.Proof.Gen.KernelIdeal.Points

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev pt (c : Dev nD) (b : Ref sig .tc) (f : b.ty.Contents (Elt F)) : sProp 𝕄 := (Memref.whole b).view.loc (c : Thread nD τ) ↦{fullShare} f

set_option maxHeartbeats 4000000 in
set_option sl_exec.resultNames true in
theorem compute (c : Dev nD) (v2 : BitVec 32) (f0 f1 f2 f3 f4 f6 f7 f8)
    {Q : PUnit → sProp 𝕄}
    (rest : BitVec 32 → BitVec 32 → BitVec 32 → BitVec 32 → Prog (TpuEff nD τ sig (Elt F) Λ₀ .tc) PUnit)
    (v20 : FVec F S512x768 .bf16) (v22 : FVec F S768x512 .bf16) (cst : FVec F S512x512 .f32)
    (e20 : v20 = xRows f0 0) (e22 : v22 = f1) (ecst : cst = constant S512x512 .f32 0x00000000#32) :
    iprop((pt c cc0_stg0_0 f0 ∗ pt c cc0_stg1_0 f1 ∗ pt c cc0_stg2_0 f2 ∗ pt c cc0_stg3_0 f3 ∗ pt c cc0_stg4_0 f4
      ∗ pt c cc0_scratch0 f6 ∗ pt c cc0_scratch1 f7 ∗ pt c cc0_scratch2 f8)
      ∗ ∀ a1 a2 a3 a4, ((pt c cc0_stg0_0 f0 ∗ pt c cc0_stg1_0 f1 ∗ pt c cc0_stg2_0 f2 ∗ pt c cc0_stg3_0 f3 ∗ pt c cc0_stg4_0 f4
          ∗ (∃ f, pt c cc0_scratch0 f) ∗ (∃ f, pt c cc0_scratch1 f)
          ∗ pt c cc0_scratch2 (partialSum f0 f1 f2 f3 f4))
        -∗ wp frame (wpE (defs₀ (F := F)) Variants.none c none) Set.univ (rest a1 a2 a3 a4) Q))
     ⊢ wp frame (wpE (defs₀ (F := F)) Variants.none c none) Set.univ (do
      let v61 : IVec S512x512 32 ← k0_part2 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v20 v22 cst
      let ⟨v87, v101, v102⟩ : Σ' (v87 : IVec S512x512 1) (v101 : FVec F S512x512 .f32), FVec F S512 .f32 ← k0_part3 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v61
      let v136 : FVec F S512x64 .bf16 ← k0_part4 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v87 v101 v102
      let v167 : FVec F S512x64 .bf16 ← k0_part5 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v87 v136
      let v200 : FVec F S512x512 .f32 ← k0_part6 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v87 v167
      let v236 : FVec F S512x512 .bf16 ← k0_part7 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v87 v200
      let v266 : FVec F S512x64 .bf16 ← k0_part8 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v87 v236
      let ⟨v297, v299⟩ : Σ' (v297 : FVec F S512x64 .bf16), FVec F S512x64 .bf16 ← k0_part9 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v87 v266
      let v334 : FVec F S512x512 .f32 ← k0_part10 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v87 v297 v299
      let ⟨v366, v368⟩ : Σ' (v366 : FVec F S512x512 .bf16), FVec F S512x64 .bf16 ← k0_part11 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v87 v334
      k0_part12 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v87 v366 v368
      let v432 : FVec F S512x512 .f32 ← k0_part13 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v87
      let ⟨v465, v468⟩ : Σ' (v465 : FVec F S512x512 .f32), FVec F S512x512 .f32 ← k0_part14 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v87 v432
      let v500 : FVec F S512x64 .bf16 ← k0_part15 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v87 v465 v468
      let ⟨v521, v525, v529, c0_i32_374⟩ : Σ' (v521 : BitVec 32) (v525 : BitVec 32) (v529 : BitVec 32), BitVec 32 ← k0_part16 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 v500
      rest v521 v525 v529 c0_i32_374) Q := by
  iintro ⟨⟨H0, H1, H2, H3, H4, H6, H7, H8⟩, HQ⟩
  sl_open_parts
  sl_exec
  have hq : ∀ p ∈ compute.sl.H6_2 f0 f1 v20 v22 cst, ∀ y : p.1.shape.Idx, p.2 y = stack (queries f0 f1) (p.1.emb y) := by
    unfold compute.sl.H6_2
    rw [e20, e22, ecst]
    refine List.forall_mem_cons.2 ⟨fun y => piece_x f0 f1 1 inb_S2x512x512_S1x512x512_1_0_0 _ _ rfl rfl y, ?_⟩
    exact List.forall_mem_cons.2 ⟨fun y => piece_q (queries f0 f1) 0 inb_S2x512x512_S1x512x512_0_0_0 y, List.forall_mem_nil _⟩
  have hqc : ∀ y, ∃ p ∈ compute.sl.H6_2 f0 f1 v20 v22 cst, y ∈ p.1.set := View.cover_of_tiled _ ![1, 512, 512] rfl
  have hc : ∀ p ∈ compute.sl.H7_16 f0 f1 f2 f3 v20 v22 cst, ∀ y : p.1.shape.Idx, p.2 y = stack (contexts f0 f1 f2 f3) (p.1.emb y) := by
    unfold compute.sl.H7_16
    refine List.forall_mem_cons.2 ⟨fun y => piece_head f0 f1 f2 f3 1 7 (compute.sl.H6_2 f0 f1 v20 v22 cst) hq hqc y, ?_⟩
    refine List.forall_mem_cons.2 ⟨fun y => piece_head f0 f1 f2 f3 1 6 (compute.sl.H6_2 f0 f1 v20 v22 cst) hq hqc y, ?_⟩
    refine List.forall_mem_cons.2 ⟨fun y => piece_head f0 f1 f2 f3 1 5 (compute.sl.H6_2 f0 f1 v20 v22 cst) hq hqc y, ?_⟩
    refine List.forall_mem_cons.2 ⟨fun y => piece_head f0 f1 f2 f3 1 4 (compute.sl.H6_2 f0 f1 v20 v22 cst) hq hqc y, ?_⟩
    refine List.forall_mem_cons.2 ⟨fun y => piece_head f0 f1 f2 f3 1 3 (compute.sl.H6_2 f0 f1 v20 v22 cst) hq hqc y, ?_⟩
    refine List.forall_mem_cons.2 ⟨fun y => piece_head f0 f1 f2 f3 1 2 (compute.sl.H6_2 f0 f1 v20 v22 cst) hq hqc y, ?_⟩
    refine List.forall_mem_cons.2 ⟨fun y => piece_head f0 f1 f2 f3 1 1 (compute.sl.H6_2 f0 f1 v20 v22 cst) hq hqc y, ?_⟩
    refine List.forall_mem_cons.2 ⟨fun y => piece_head f0 f1 f2 f3 1 0 (compute.sl.H6_2 f0 f1 v20 v22 cst) hq hqc y, ?_⟩
    refine List.forall_mem_cons.2 ⟨fun y => piece_head f0 f1 f2 f3 0 7 (compute.sl.H6_2 f0 f1 v20 v22 cst) hq hqc y, ?_⟩
    refine List.forall_mem_cons.2 ⟨fun y => piece_head f0 f1 f2 f3 0 6 (compute.sl.H6_2 f0 f1 v20 v22 cst) hq hqc y, ?_⟩
    refine List.forall_mem_cons.2 ⟨fun y => piece_head f0 f1 f2 f3 0 5 (compute.sl.H6_2 f0 f1 v20 v22 cst) hq hqc y, ?_⟩
    refine List.forall_mem_cons.2 ⟨fun y => piece_head f0 f1 f2 f3 0 4 (compute.sl.H6_2 f0 f1 v20 v22 cst) hq hqc y, ?_⟩
    refine List.forall_mem_cons.2 ⟨fun y => piece_head f0 f1 f2 f3 0 3 (compute.sl.H6_2 f0 f1 v20 v22 cst) hq hqc y, ?_⟩
    refine List.forall_mem_cons.2 ⟨fun y => piece_head f0 f1 f2 f3 0 2 (compute.sl.H6_2 f0 f1 v20 v22 cst) hq hqc y, ?_⟩
    refine List.forall_mem_cons.2 ⟨fun y => piece_head f0 f1 f2 f3 0 1 (compute.sl.H6_2 f0 f1 v20 v22 cst) hq hqc y, ?_⟩
    refine List.forall_mem_cons.2 ⟨fun y => piece_head f0 f1 f2 f3 0 0 (compute.sl.H6_2 f0 f1 v20 v22 cst) hq hqc y, ?_⟩
    exact List.forall_mem_nil _
  have hcc : ∀ y, ∃ p ∈ compute.sl.H7_16 f0 f1 f2 f3 v20 v22 cst, y ∈ p.1.set := View.cover_of_tiled _ ![1, 512, 64] rfl
  iapply HQ $$ %_ %_ %_ %_ [H0 H1 H2 H3 H4 H6 H7 H8]
  rw [writes_pieces f8 _ (partialSum f0 f1 f2 f3 f4) (List.forall_mem_cons.2 ⟨fun y => piece_p f0 f1 f2 f3 f4 1 (compute.sl.H7_16 f0 f1 f2 f3 v20 v22 cst) hc hcc y,
      List.forall_mem_cons.2 ⟨fun y => piece_p f0 f1 f2 f3 f4 0 (compute.sl.H7_16 f0 f1 f2 f3 v20 v22 cst) hc hcc y, List.forall_mem_nil _⟩⟩)
    (View.cover_of_tiled _ ![512, 768] rfl)]
  isplitl [H0]
  · iexact H0
  isplitl [H1]
  · iexact H1
  isplitl [H2]
  · iexact H2
  isplitl [H3]
  · iexact H3
  isplitl [H4]
  · iexact H4
  isplitl [H6]
  · iexists _; iexact H6
  isplitl [H7]
  · iexists _; iexact H7
  iexact H8

end Cert.KernelIdeal.Talk
end
-- ==== Proof.Exchange.lean ====
/-
  The exchange of one device: the five steps of the reduction, the five of the gathering, and the
  result stored from the gathered accumulator.
-/
module

public import proofs.«01_k».proof.Proof.Steps
public import proofs.«01_k».proof.Proof.Compute

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- What device `c` stores as its result: the two batches of the accumulator. -/
def batches (t : Acc F) : Vec F S2x512x768 .f32 := fun i => t (ix2 (⟨512 * (i 0).val + (i 1).val, by
  have h0 : (i 0).val < 2 := (i 0).isLt
  have h1 : (i 1).val < 512 := (i 1).isLt
  omega⟩ : Fin 1024) (i 2))

theorem cast_o (y : Vec F S512x768 .f32) (j : S1x512x768.Idx) :
    shapeCast S1x512x768 y shapeCasts_S512x768_S1x512x768 j = y (ix2 (j 1) (j 2)) := by
  pointwise []

/-- One batch of the accumulator, stored as a piece of the result. -/
theorem piece_o (t : Acc F) (b : Fin 2) {r : Fin 2 → ℕ} (hr : r = ![512 * b.val, 0]) (inb inb') (y : S1x512x768.Idx) :
    shapeCast S1x512x768 (View.readAt (Elt F) (Memref.whole cc0_scratch2).view (Rect.unit (s := S1024x768) r S512x768.size inb).toLoadRect t) shapeCasts_S512x768_S1x512x768 y
      = batches t ((Rect.unit (s := S2x512x768) ![b.val, 0, 0] S1x512x768.size inb').emb y) := by
  subst hr
  rw [cast_o]
  have hy : (y 0).val < 1 := (y 0).isLt
  refine congrArg t (funext fun (a : Fin 2) => Fin.ext ?_)
  match a with
  | 0 =>
    show 512 * b.val + 1 * (y 1).val = 512 * (b.val + 1 * (y 0).val) + (0 + 1 * (y 1).val)
    omega
  | 1 => rfl

/-- Covering pieces of one function leave that function. -/
theorem writes_out (f : (cc0_stg5_0 : Ref sig .tc).ty.Contents (Elt F)) (L : List (View.Piece (Elt F) S2x512x768 .f32)) (G : Vec F S2x512x768 .f32)
    (hG : ∀ p ∈ L, ∀ x : p.1.shape.Idx, p.2 x = G (p.1.emb x)) (hc : ∀ y, ∃ p ∈ L, y ∈ p.1.set) :
    (Memref.whole cc0_stg5_0).view.writes (Elt F) f L = G :=
  funext fun j => View.read_writes_apply_of_pieces (Memref.whole cc0_stg5_0).view f G L hG j (hc _)

/-- The kernel's text from its first transfer on. -/
def exchange (d0 : Dev nD) (v2 v521 v525 v529 c0_i32_374 : BitVec 32) : Prog (TpuEff nD τ sig (Elt F) Λ₀ .tc) PUnit := do
  let ⟨v555, v559, v560⟩ : Σ' (v555 : BitVec 32) (v559 : BitVec 32), BitVec 32 ← k0_part17 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v521 v525 v529 c0_i32_374
  let ⟨v589, c2_i32_425⟩ : Σ' (v589 : BitVec 32), BitVec 32 ← k0_part18 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v525 v555 v559 v560
  let ⟨v593, v618⟩ : Σ' (v593 : BitVec 32), FVec F S128x768 .f32 ← k0_part19 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v559 v589 c2_i32_425
  let v627 : BitVec 32 ← k0_part20 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v593 v618
  let v661 : BitVec 32 ← k0_part21 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v627
  let v693 : BitVec 32 ← k0_part22 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v661
  let ⟨v736, v737, v738, c1_i32_550⟩ : Σ' (v736 : BitVec 32) (v737 : BitVec 32) (v738 : BitVec 32), BitVec 32 ← k0_part23 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v661 v693
  let ⟨v759, v760, v762⟩ : Σ' (v759 : BitVec 32) (v760 : BitVec 32), BitVec 32 ← k0_part24 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v736 v737 v738 c1_i32_550
  let v796 : BitVec 32 ← k0_part25 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 d0 v2 v759 v760 v762
  let v798 : DmaSems sig S1 := cc0_scratch7.slice (Rect.unit (s := S5) ![0] S1.size inb_S5_S1_0)
  let v799 : DmaSems sig S_ := v798.squeeze S_ squeezes_S1_S_
  let v800 : Memref sig .tc .vmem S512x768 .f32 := (Memref.whole cc0_scratch2).slice (Rect.unit (s := S1024x768) (k0_off15 d0) S512x768.size (k0_off15_inb d0)) (fun _ => rfl)
  let v801 : Memref sig .tc .vmem S512x768 .f32 := (Memref.whole cc0_scratch2).slice (Rect.unit (s := S1024x768) (k0_off15 d0) S512x768.size (k0_off15_inb d0)) (fun _ => rfl)
  Prog.lift (.waitDma2 v799.sem v801 v800 (View.wordExact_bits rfl) (View.wordExact_bits rfl))
  let v802 : Vec F S512x768 .f32 ← Prog.lift (.load (Memref.whole cc0_scratch2) (Rect.unit (s := S1024x768) ![0, 0] S512x768.size inb_S1024x768_S512x768_0_0).toLoadRect (View.loadsAt_vmem h_S512x768))
  let v803 : Vec F S1x512x768 .f32 ← Prog.lift (.load (Memref.whole cc0_stg5_0) (Rect.unit (s := S2x512x768) ![0, 0, 0] S1x512x768.size inb_S2x512x768_S1x512x768_0_0_0).toLoadRect (View.loadsAt_vmem h_S1x512x768))
  Prog.lift (.store (Memref.whole cc0_stg5_0) (Rect.unit (s := S2x512x768) ![0, 0, 0] S1x512x768.size inb_S2x512x768_S1x512x768_0_0_0) (k0_pay1 v802) Finset.univ (View.stores_vmem_bits_univ h_S1x512x768 rfl) (.inl rfl))
  let v806 : Vec F S512x768 .f32 ← Prog.lift (.load (Memref.whole cc0_scratch2) (Rect.unit (s := S1024x768) ![512, 0] S512x768.size inb_S1024x768_S512x768_512_0).toLoadRect (View.loadsAt_vmem h_S512x768))
  let v807 : Vec F S1x512x768 .f32 ← Prog.lift (.load (Memref.whole cc0_stg5_0) (Rect.unit (s := S2x512x768) ![1, 0, 0] S1x512x768.size inb_S2x512x768_S1x512x768_1_0_0).toLoadRect (View.loadsAt_vmem h_S1x512x768))
  Prog.lift (.store (Memref.whole cc0_stg5_0) (Rect.unit (s := S2x512x768) ![1, 0, 0] S1x512x768.size inb_S2x512x768_S1x512x768_1_0_0) (k0_pay2 v806) Finset.univ (View.stores_vmem_bits_univ h_S1x512x768 rfl) (.inl rfl))
  pure ⟨⟩

theorem five (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) _

variable (P : Dev nD → Acc F)

/-- What a device pays once the barrier is past. -/
def laterDues (c : Dev nD) : List (GSem nD τ sig × ℕ) := (dues c).drop 5

/-- They come in the order of the levels. -/
theorem above (c : Dev nD) (i : Fin 10) : ∀ q ∈ (laterDues c).drop (i.val + 1), q.1.1.2 = .tc ∧ 2 + i.val < lv q.1 () := by
  have hl : (laterDues c).map (fun q => lv q.1 ()) = [2, 3, 4, 5, 6, 7, 8, 9, 10, 11] := by
    simp only [laterDues, dues, List.drop, List.map, lv_recv, lv_grecv]; decide
  have ht : (laterDues c).map (fun q => q.1.1.2) = List.replicate 10 .tc := rfl
  intro q hq
  refine ⟨?_, ?_⟩
  · have h := List.mem_map_of_mem (f := fun q : GSem nD τ sig × ℕ => q.1.1.2) (List.mem_of_mem_drop hq)
    rw [ht] at h
    exact List.eq_of_mem_replicate h
  · have h := List.mem_map_of_mem (f := fun q : GSem nD τ sig × ℕ => lv q.1 ()) hq
    rw [List.map_drop, hl] at h
    generalize lv q.1 () = n at h
    clear hq hl ht
    fin_cases i <;> simp at h ⊢ <;> omega

/-- What the exchange starts from. -/
def exchangePre (K : GSem nD τ sig → ℕ) (c : Dev nD) : sProp 𝕄 :=
  iprop((bigSep Finset.univ fun k : Fin 5 => link P K 0 1 c k) ∗ (bigSep Finset.univ fun k : Fin 5 => link P K 2 3 c k)
    ∗ (bigSep Finset.univ fun k : Fin 5 => barPay c k) ∗ levAts L lv ∗ accPts c 0 1024 (P c) ∗ owing c (laterDues c))
/-- What it leaves: every counter at zero, the staging rows back, the accumulator complete, nothing owed. -/
def exchangePost (c : Dev nD) : sProp 𝕄 :=
  iprop((bigSep Finset.univ fun k : Fin 5 => unlinked 0 1 c k) ∗ (bigSep Finset.univ fun k : Fin 5 => unlinked 2 3 c k)
    ∗ (bigSep Finset.univ fun k : Fin 5 => iprop(∃ f, stgPts c (soff k) (half k) f)) ∗ accPts c 0 1024 (total P) ∗ owing c [])

theorem accPts_whole (c : Dev nD) (f : Acc F) : (accPts c 0 1024 f : sProp 𝕄) = pt c cc0_scratch2 f := by
  have h : accRows 0 1024 = Finset.univ := by
    ext i
    simp only [accRows, Finset.mem_filter, Finset.mem_univ, true_and, iff_true]
    have h0 : (i 0).val < 1024 := (i 0).isLt
    omega
  unfold accPts pt
  rw [h]

theorem own_total (c : Dev nD) :
    (accPts c (start ((4 : Fin 5).val + 1) c) (half (4 : Fin 5)) (A P ((4 : Fin 5).val + 1) c) : sProp 𝕄)
      = accPts c (start ((4 : Fin 5).val + 1) c) (half (4 : Fin 5)) (total P) := by
  refine pointsTo_congr fun i hi => ?_
  simp only [accRows, Finset.mem_filter, Finset.mem_univ, true_and] at hi
  change start 5 c ≤ (i 0).val ∧ (i 0).val < start 5 c + 32 at hi
  have h := owner_start c ⟨(i 0).val - start 5 c, by omega⟩
  rw [Nat.add_sub_cancel' hi.1] at h
  show A P 5 c i = A P 5 (owner (i 0).val) i
  rw [h]

set_option maxHeartbeats 4000000 in
theorem exchange_run (K : GSem nD τ sig → ℕ) (c : Dev nD) (v2 a1 a2 a3 a4 : BitVec 32) (f5) {Q : PUnit → sProp 𝕄} :
    iprop((exchangePre P K c ∗ pt c cc0_stg5_0 f5) ∗ ((exchangePost P c ∗ pt c cc0_stg5_0 (batches (total P))) -∗ Q ⟨⟩))
      ⊢ wp frame (wpE (defs₀ (F := F)) 𝒱₀ c none) Set.univ (exchange (F := F) c v2 a1 a2 a3 a4) Q := by
  unfold exchange
  simp only [k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, Prog.lift, Prog.bind_op, Prog.bind_ret, Prog.pure_eq_ret, Prog.bind_assoc]
  unfold exchangePre exchangePost barPay
  simp only [five]
  iintro ⟨⟨⟨⟨A0, A1, A2, A3, A4⟩, ⟨B0, B1, B2, B3, B4⟩, ⟨⟨S0, R0, G0⟩, ⟨S1, R1, G1⟩, ⟨S2, R2, G2⟩, ⟨S3, R3, G3⟩, ⟨S4, R4, G4⟩⟩, #Hlev, Hacc, HO⟩, H5⟩, HQ⟩
  iapply (rs_step (P := P) K c 0 (n := 512) rfl (Fin.ext (dev6 c)) (off1 c) (off2 c) rfl rfl rfl (above c 0)
    (fun a b => shapeCast_self ..)) $$ [A0 S0 R0 Hlev Hacc HO]
  · isplitl [A0]; · iexact A0
    isplitl [S0]; · iexact S0
    isplitl [R0]; · iexact R0
    isplitr; · iexact Hlev
    isplitl [Hacc]; · iexact Hacc
    iexact HO
  iintro ⟨U0, T0, Hacc, D0, HO⟩
  iapply (rs_step (P := P) K c 1 (n := 256) rfl (Fin.ext (dev7 c)) (off3 c) (off4 c) rfl rfl rfl (above c 1)
    (fun a b => shapeCast_self ..)) $$ [A1 S1 R1 Hlev Hacc HO]
  · isplitl [A1]; · iexact A1
    isplitl [S1]; · iexact S1
    isplitl [R1]; · iexact R1
    isplitr; · iexact Hlev
    isplitl [Hacc]; · iexact Hacc
    iexact HO
  iintro ⟨U1, T1, Hacc, D1, HO⟩
  iapply (rs_step (P := P) K c 2 (n := 128) rfl (Fin.ext (dev8 c)) (off5 c) (off6 c) rfl rfl rfl (above c 2)
    (fun a b => shapeCast_self ..)) $$ [A2 S2 R2 Hlev Hacc HO]
  · isplitl [A2]; · iexact A2
    isplitl [S2]; · iexact S2
    isplitl [R2]; · iexact R2
    isplitr; · iexact Hlev
    isplitl [Hacc]; · iexact Hacc
    iexact HO
  iintro ⟨U2, T2, Hacc, D2, HO⟩
  iapply (rs_step (P := P) K c 3 (n := 64) rfl (Fin.ext (dev9 c)) (off7 c) (off8 c) rfl rfl rfl (above c 3)
    (fun a b => shapeCast_self ..)) $$ [A3 S3 R3 Hlev Hacc HO]
  · isplitl [A3]; · iexact A3
    isplitl [S3]; · iexact S3
    isplitl [R3]; · iexact R3
    isplitr; · iexact Hlev
    isplitl [Hacc]; · iexact Hacc
    iexact HO
  iintro ⟨U3, T3, Hacc, D3, HO⟩
  iapply (rs_step (P := P) K c 4 (n := 32) rfl (Fin.ext (dev10 c)) (off9 c) (off10 c) rfl rfl rfl (above c 4)
    (fun a b => shapeCast_self ..)) $$ [A4 S4 R4 Hlev Hacc HO]
  · isplitl [A4]; · iexact A4
    isplitl [S4]; · iexact S4
    isplitl [R4]; · iexact R4
    isplitr; · iexact Hlev
    isplitl [Hacc]; · iexact Hacc
    iexact HO
  iintro ⟨U4, T4, Hacc, D4, HO⟩
  ihave Hacc := (Entails.of_eq (own_total P c)) $$ Hacc
  iapply (ag_step (P := P) K c 4 (n := 32) rfl (Fin.ext (dev11 c)) (off11 c) rfl rfl (above c 5)) $$ [B4 G4 Hlev Hacc D4 HO]
  · isplitl [B4]; · iexact B4
    isplitl [G4]; · iexact G4
    isplitr; · iexact Hlev
    isplitl [Hacc]; · iexact Hacc
    isplitl [D4]; · iexists _; iexact D4
    iexact HO
  iintro ⟨V4, Hacc, HO⟩
  iapply (ag_step (P := P) K c 3 (n := 64) rfl (Fin.ext (dev12 c)) (off12 c) rfl rfl (above c 6)) $$ [B3 G3 Hlev Hacc D3 HO]
  · isplitl [B3]; · iexact B3
    isplitl [G3]; · iexact G3
    isplitr; · iexact Hlev
    isplitl [Hacc]; · iexact Hacc
    isplitl [D3]; · iexists _; iexact D3
    iexact HO
  iintro ⟨V3, Hacc, HO⟩
  iapply (ag_step (P := P) K c 2 (n := 128) rfl (Fin.ext (dev13 c)) (off13 c) rfl rfl (above c 7)) $$ [B2 G2 Hlev Hacc D2 HO]
  · isplitl [B2]; · iexact B2
    isplitl [G2]; · iexact G2
    isplitr; · iexact Hlev
    isplitl [Hacc]; · iexact Hacc
    isplitl [D2]; · iexists _; iexact D2
    iexact HO
  iintro ⟨V2, Hacc, HO⟩
  iapply (ag_step (P := P) K c 1 (n := 256) rfl (Fin.ext (dev14 c)) (off14 c) rfl rfl (above c 8)) $$ [B1 G1 Hlev Hacc D1 HO]
  · isplitl [B1]; · iexact B1
    isplitl [G1]; · iexact G1
    isplitr; · iexact Hlev
    isplitl [Hacc]; · iexact Hacc
    isplitl [D1]; · iexists _; iexact D1
    iexact HO
  iintro ⟨V1, Hacc, HO⟩
  iapply (ag_step (P := P) K c 0 (n := 512) rfl (Fin.ext (dev15 c)) (off15 c) rfl rfl (above c 9)) $$ [B0 G0 Hlev Hacc D0 HO]
  · isplitl [B0]; · iexact B0
    isplitl [G0]; · iexact G0
    isplitr; · iexact Hlev
    isplitl [Hacc]; · iexact Hacc
    isplitl [D0]; · iexists _; iexact D0
    iexact HO
  iintro ⟨V0, Hacc, HO⟩
  ihave Hacc := (show accPts c (start (0 : Fin 5) c) (2 * half (0 : Fin 5)) (total P) ⊢ pt c cc0_scratch2 (total P) from
    Entails.of_eq (accPts_whole c (total P))) $$ Hacc
  sl_exec
  rw [writes_out f5 _ (batches (total P))
    (List.forall_mem_cons.2 ⟨fun y => piece_o (total P) 1 rfl inb_S1024x768_S512x768_512_0 inb_S2x512x768_S1x512x768_1_0_0 y,
      List.forall_mem_cons.2 ⟨fun y => piece_o (total P) 0 rfl inb_S1024x768_S512x768_0_0 inb_S2x512x768_S1x512x768_0_0_0 y, List.forall_mem_nil _⟩⟩)
    (View.cover_of_tiled _ ![1, 512, 768] rfl)]
  rw [wp_ret]
  imodintro
  iapply HQ
  isplitr [H5]
  · isplitl [U0 U1 U2 U3 U4]
    · isplitl [U0]; · iexact U0
      isplitl [U1]; · iexact U1
      isplitl [U2]; · iexact U2
      isplitl [U3] <;> iassumption
    isplitl [V0 V1 V2 V3 V4]
    · isplitl [V0]; · iexact V0
      isplitl [V1]; · iexact V1
      isplitl [V2]; · iexact V2
      isplitl [V3] <;> iassumption
    isplitl [T0 T1 T2 T3 T4]
    · isplitl [T0]; · iexact T0
      isplitl [T1]; · iexact T1
      isplitl [T2]; · iexact T2
      isplitl [T3] <;> iassumption
    isplitl [Hacc]
    · rw [accPts_whole]; iexact Hacc
    iexact HO
  iexact H5

end Cert.KernelIdeal.Talk

end
-- ==== Proof.Barrier.lean ====
/-
  The start of a device's run: it tells its five partners that its staging rows may be written, hears
  from all five, and loads the first operands.
-/
module

public import proofs.«01_k».proof.Proof.Exchange

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → Acc F)

/-- What device `c` holds to signal the device at the other end of step `k`. -/
def bell (K : GSem nD τ sig → ℕ) (c : Dev nD) (k : Fin 5) : sProp 𝕄 :=
  iprop(cellInv ER (Rd P) (K (barCell (pr k c))) (barCell (pr k c)) ∗ reached ER (barCell (pr k c)) 0
    ∗ dutyTok ER (barCell (pr k c)) 0 k)
/-- The two receive cells of step `k` are open. -/
def ready (c : Dev nD) (k : Fin 5) : sProp 𝕄 := iprop(reached ER (cell 1 k c) 0 ∗ reached ER (cell 3 k c) 0)

/-- One signal of the barrier: the staging rows of step `k` go with it. -/
theorem signal_step (K : GSem nD τ sig → ℕ) (c : Dev nD) (k : Fin 5) {p : Dev nD} (hp : p = pr k c) {z : ℤ} (hz : z = 1)
    {l : List (GSem nD τ sig × ℕ)}
    {cont : PUnit → Prog (TpuEff nD τ sig (Elt F) Λ₀ .tc) PUnit} {Q : PUnit → sProp 𝕄} :
    iprop(bell P K c k ∗ (∃ f, stgPts c (soff k) (half k) f) ∗ ready c k ∗ owing c ((barCell (pr k c), 1) :: l))
      ⊢ iprop((owing c l -∗ wp frame (wpE (defs₀ (F := F)) 𝒱₀ c none) Set.univ (cont ⟨⟩) Q)
          -∗ wp frame (wpE (defs₀ (F := F)) 𝒱₀ c none) Set.univ (.op (.semSignal (p, .tc) barrier0 z) cont) Q) := by
  subst hp hz
  unfold bell ready owing
  iintro ⟨⟨#HI, #Hr, Ht⟩, Hs, Hrr, ⟨%W, HO⟩⟩ Hk
  iapply (Rounds.wp_signal 𝒱₀ ER (Rd P) (c : Thread nD τ) none (dst := (pr k c : Thread nD τ)) (sem := barrier0) (r := 0) (d := k) (κ := K (barCell (pr k c)))
      (by rw [duties_bar]; exact Finset.mem_univ _) (amount_bar P (pr k c) k) () (owed l) rfl) $$ [HO Ht Hs Hrr]
  · isplitr; · iexact HI
    isplitl [HO]; · iexact HO
    isplitl [Ht]; · iexact Ht
    isplitl [Hs Hrr]
    · rw [payload_bar]; unfold barPay; rw [pr_pr]
      isplitl [Hs]; · iexact Hs
      iexact Hrr
    · iexact Hr
  iintro HO
  iapply Hk
  iexists W; iexact HO

/-- What the barrier starts from. -/
def barrierPre (K : GSem nD τ sig → ℕ) (c : Dev nD) : sProp 𝕄 :=
  iprop((bigSep Finset.univ fun k : Fin 5 => bell P K c k) ∗ (bigSep Finset.univ fun k : Fin 5 => ready c k)
    ∗ (bigSep Finset.univ fun k : Fin 5 => iprop(∃ f, stgPts c (soff k) (half k) f))
    ∗ cellInv ER (Rd P) (K (barCell c)) (barCell c) ∗ atPos ER (barCell c) 0 ∅ 0 ∗ cred (tallyAt (barCell c) () 5)
    ∗ levAts L lv ∗ owing c (dues c))
/-- What it leaves: the barrier counter at zero, and what the five partners gave. -/
def barrierPost (c : Dev nD) : sProp 𝕄 :=
  iprop(semVal (barCell c) 0 ∗ (bigSep Finset.univ fun k : Fin 5 => barPay c k) ∗ owing c (laterDues c))

theorem above_bar (c : Dev nD) : ∀ q ∈ laterDues c, q.1.1.2 = .tc ∧ 1 < lv q.1 () := by
  intro q hq
  rcases List.mem_cons.1 (show q ∈ (cell 1 0 (pr 0 c), N 0) :: (laterDues c).drop 1 from hq) with rfl | h
  · exact ⟨rfl, by rw [lv_recv]; decide⟩
  · have := above c 0 q h
    exact ⟨this.1, lt_of_le_of_lt (by decide) this.2⟩

theorem first_x (f) :
    k0_pay3 (View.readAt (Elt F) (Memref.whole cc0_stg0_0).view (Rect.unit (s := S2x512x768) ![0, 0, 0] ![1, 512, 768] inb_S2x512x768_S1x512x768_0_0_0).toLoadRect f) = xRows f 0 :=
  load_x f 0 inb_S2x512x768_S1x512x768_0_0_0
theorem first_wq (f) :
    k0_pay4 (View.readAt (Elt F) (Memref.whole cc0_stg1_0).view (Rect.unit (s := S768x512) ![0, 0] ![768, 512] inb_S768x512_S768x512_0_0).toLoadRect f) = f :=
  load_wq f inb_S768x512_S768x512_0_0

set_option maxHeartbeats 4000000 in
/-- The run of the barrier and of the first two loads. -/
theorem front_run (K : GSem nD τ sig → ℕ) (c : Dev nD) (f0 f1)
    (rest : (Σ' (d0 : Dev nD) (v2 : BitVec 32) (v20 : FVec F S512x768 .bf16) (v22 : FVec F S768x512 .bf16), FVec F S512x512 .f32) → Prog (TpuEff nD τ sig (Elt F) Λ₀ .tc) PUnit) {Q : PUnit → sProp 𝕄} :
    iprop((barrierPre P K c ∗ pt c cc0_stg0_0 f0 ∗ pt c cc0_stg1_0 f1)
        ∗ ∀ v2, ((barrierPost c ∗ pt c cc0_stg0_0 f0 ∗ pt c cc0_stg1_0 f1)
            -∗ wp frame (wpE (defs₀ (F := F)) 𝒱₀ c none) Set.univ (rest ⟨c, v2, xRows f0 0, f1, constant S512x512 .f32 0x00000000#32⟩) Q))
      ⊢ wp frame (wpE (defs₀ (F := F)) 𝒱₀ c none) Set.univ (k0_part1 (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 >>= rest) Q := by
  simp only [k0_part1_eq_skeleton, k0_part1_skel, semSignalWord, semWaitWord, Prog.lift, Prog.bind_op, Prog.bind_ret, Prog.pure_eq_ret, Prog.bind_assoc, wp_deviceId]
  unfold barrierPre barrierPost
  simp only [five]
  iintro ⟨⟨⟨⟨A0, A1, A2, A3, A4⟩, ⟨R0, R1, R2, R3, R4⟩, ⟨S0, S1, S2, S3, S4⟩, #HI, Hat, Hc, #Hlev, HO⟩, H0, H1⟩, HQ⟩
  iapply (signal_step P K c 0 (Fin.ext (dev1 c)) rfl) $$ [A0 S0 R0 HO]
  · isplitl [A0]; · iexact A0
    isplitl [S0]; · iexact S0
    isplitl [R0]; · iexact R0
    iexact HO
  iintro HO
  iapply (signal_step P K c 1 (Fin.ext (dev2 c)) rfl) $$ [A1 S1 R1 HO]
  · isplitl [A1]; · iexact A1
    isplitl [S1]; · iexact S1
    isplitl [R1]; · iexact R1
    iexact HO
  iintro HO
  iapply (signal_step P K c 2 (Fin.ext (dev3 c)) rfl) $$ [A2 S2 R2 HO]
  · isplitl [A2]; · iexact A2
    isplitl [S2]; · iexact S2
    isplitl [R2]; · iexact R2
    iexact HO
  iintro HO
  iapply (signal_step P K c 3 (Fin.ext (dev4 c)) rfl) $$ [A3 S3 R3 HO]
  · isplitl [A3]; · iexact A3
    isplitl [S3]; · iexact S3
    isplitl [R3]; · iexact R3
    iexact HO
  iintro HO
  iapply (signal_step P K c 4 (Fin.ext (dev5 c)) rfl) $$ [A4 S4 R4 HO]
  · isplitl [A4]; · iexact A4
    isplitl [S4]; · iexact S4
    isplitl [R4]; · iexact R4
    iexact HO
  iintro HO
  unfold owing
  icases HO with ⟨%W, HO⟩
  iapply (Rounds.wp_wait_rest_token 𝒱₀ ER (Rd P) (c : Thread nD τ) none (κ := K (barCell c))
      (wpE_semWait_eq 𝒱₀ (c : Thread nD τ) none Set.univ) (Set.mem_univ _) () (O := owed (laterDues c)) (W := W) (R := 0) (m := 0) (T := ∅)
      ((Nat.zero_add 5).trans (expect_bar P c).symm)) $$ [Hc HO Hat]
  · isplitr; · iexact HI
    isplitl [Hc]; · iexact Hc
    isplitl [HO]; · iexact HO
    isplitr; · iapply (mayWait c (.reg barrier0) 1 (laterDues c) (lv_bar c).le (above_bar c)); iexact Hlev
    iexact Hat
  iintro ⟨HO, Hat, -, Hpay⟩
  ihave Hp := (Entails.of_eq (rest_bar P c)) $$ Hpay
  imod (close P (K (barCell c)) (barCell c)) $$ [Hat] with Hb
  · isplitr; · iexact HI
    iexact Hat
  sl_exec
  rw [first_x, first_wq]
  iapply HQ $$ %_ [Hb Hp HO H0 H1]
  isplitr [H0 H1]
  · isplitl [Hb]; · iexact Hb
    isplitl [Hp]; · iexact Hp
    iexists _; iexact HO
  isplitl [H0] <;> iassumption

end Cert.KernelIdeal.Talk

end
-- ==== Proof.Body.lean ====
/-
  The whole of a device's run: the barrier, the attention, the exchange.
-/
module

public import proofs.«01_k».proof.Proof.Barrier
public import Idealize.ShloMosaic.Lib.Ring

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → Acc F)

/-! ## The staging buffer by steps -/

theorem stg_cover : (Finset.univ.biUnion fun k : Fin 5 => stgRows (soff k) (half k)) = Finset.univ := by
  ext i
  have h0 : (i 0).val < 992 := (i 0).isLt
  simp only [stgRows, Finset.mem_biUnion, Finset.mem_filter, Finset.mem_univ, true_and, iff_true]
  by_cases h : (i 0).val < 512
  · exact ⟨0, Nat.zero_le _, h⟩
  by_cases h1 : (i 0).val < 768
  · exact ⟨1, Nat.le_of_not_lt h, h1⟩
  by_cases h2 : (i 0).val < 896
  · exact ⟨2, Nat.le_of_not_lt h1, h2⟩
  by_cases h3 : (i 0).val < 960
  · exact ⟨3, Nat.le_of_not_lt h2, h3⟩
  exact ⟨4, Nat.le_of_not_lt h3, h0⟩

theorem soff_mono : ∀ k k' : Fin 5, k < k' → soff k + half k ≤ soff k' := by decide

theorem stg_disjoint (k k' : Fin 5) (h : k ≠ k') : Disjoint (stgRows (soff k) (half k)) (stgRows (soff k') (half k')) := by
  rw [Finset.disjoint_left]
  intro i
  simp only [stgRows, Finset.mem_filter, Finset.mem_univ, true_and]
  rcases lt_or_gt_of_ne h with h | h <;> have := soff_mono _ _ h <;> omega

theorem stg_split (c : Dev nD) (f) :
    (pt c cc0_scratch3 f : sProp 𝕄) ⊢ bigSep Finset.univ fun k : Fin 5 => iprop(∃ f, stgPts c (soff k) (half k) f) := by
  refine (Entails.of_eq (Ring.pointsTo_blocks (nD := nD) (τ := τ) (sig := sig) (Ix := Unit) (Val := Elt F) (Name := ℕ) (U := UU) (Lvl := ℕ)
    (ℓ := (Memref.whole cc0_scratch3).view.loc (c : Thread nD τ)) (q := fullShare) (fun k : Fin 5 => stgRows (soff k) (half k)) stg_disjoint stg_cover f)).trans ?_
  refine bigSep_mono fun k _ => (show (stgPts c (soff k) (half k) f : sProp 𝕄) ⊢ iprop(∃ f, stgPts c (soff k) (half k) f) from ?_)
  iintro H; iexists f; iexact H

theorem stg_join (c : Dev nD) (f₀ : Stg F) :
    (bigSep Finset.univ fun k : Fin 5 => iprop(∃ f, stgPts c (soff k) (half k) f) : sProp 𝕄) ⊢ iprop(∃ f, pt c cc0_scratch3 f) :=
  Ring.pointsTo_blocks_join_exists (nD := nD) (τ := τ) (sig := sig) (Ix := Unit) (Val := Elt F) (Name := ℕ) (U := UU) (Lvl := ℕ)
    (ℓ := (Memref.whole cc0_scratch3).view.loc (c : Thread nD τ)) (q := fullShare) (fun k : Fin 5 => stgRows (soff k) (half k)) stg_disjoint stg_cover f₀

/-! ## The run -/

/-- What device `c` has of the protocol when it starts: its cells open. -/
def opened (K : GSem nD τ sig → ℕ) (c : Dev nD) : sProp 𝕄 :=
  iprop((bigSep Finset.univ fun k : Fin 5 => bell P K c k) ∗ (bigSep Finset.univ fun k : Fin 5 => ready c k)
    ∗ (cellInv ER (Rd P) (K (barCell c)) (barCell c) ∗ atPos ER (barCell c) 0 ∅ 0 ∗ cred (tallyAt (barCell c) () 5))
    ∗ (bigSep Finset.univ fun k : Fin 5 => link P K 0 1 c k) ∗ (bigSep Finset.univ fun k : Fin 5 => link P K 2 3 c k))

/-- The kernel's own buffers, with some contents. -/
def scratch (c : Dev nD) : sProp 𝕄 :=
  iprop((∃ f, pt c cc0_scratch0 f) ∗ (∃ f, pt c cc0_scratch1 f) ∗ (∃ f, pt c cc0_scratch2 f) ∗ (∃ f, pt c cc0_scratch3 f))

/-- The counters at zero. -/
def counters (c : Dev nD) : sProp 𝕄 :=
  iprop((bigSep Finset.univ fun k : Fin 5 => unlinked 0 1 c k) ∗ (bigSep Finset.univ fun k : Fin 5 => unlinked 2 3 c k))

/-- The operands as they are staged. -/
def operands (c : Dev nD) (f0 : Vec F S2x512x768 .bf16) (f1 : Vec F S768x512 .bf16) (f2 f3 : Vec F S2x8x512x64 .bf16) (f4 : Vec F S512x768 .bf16) : sProp 𝕄 :=
  iprop(pt c cc0_stg0_0 f0 ∗ pt c cc0_stg1_0 f1 ∗ pt c cc0_stg2_0 f2 ∗ pt c cc0_stg3_0 f3 ∗ pt c cc0_stg4_0 f4)

set_option maxHeartbeats 4000000 in
/-- A device's run leaves the reduced sum of all the devices' products in its result. -/
theorem body_run (K : GSem nD τ sig → ℕ) (c : Dev nD) (f0 f1 f2 f3 f4 f5) (hP : P c = partialSum f0 f1 f2 f3 f4) {Q : PUnit → sProp 𝕄} :
    iprop((opened P K c ∗ levAts L lv ∗ owing c (dues c) ∗ scratch c ∗ operands c f0 f1 f2 f3 f4 ∗ pt c cc0_stg5_0 f5)
        ∗ ((semVal (barCell c) 0 ∗ counters c ∗ owing c [] ∗ scratch c ∗ operands c f0 f1 f2 f3 f4 ∗ pt c cc0_stg5_0 (batches (total P))) -∗ Q ⟨⟩))
      ⊢ wp frame (wpE (defs₀ (F := F)) 𝒱₀ c none) Set.univ (cc0_body (F := F) (Memref.whole cc0_stg0_0) (hstage0_0 0) (Memref.whole cc0_stg1_0) (hstage0_1 0) (Memref.whole cc0_stg2_0) (hstage0_2 0) (Memref.whole cc0_stg3_0) (hstage0_3 0) (Memref.whole cc0_stg4_0) (hstage0_4 0) (Memref.whole cc0_stg5_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q := by
  rw [cc0_body_eq_skeleton]
  unfold cc0_body_skel opened scratch operands counters
  iintro ⟨⟨⟨Hbell, Hready, ⟨HI, Hat, Hc⟩, Hl1, Hl2⟩, #Hlev, HO, ⟨⟨%f6, H6⟩, ⟨%f7, H7⟩, ⟨%f8, H8⟩, ⟨%f9, H9⟩⟩, ⟨H0, H1, H2, H3, H4⟩, H5⟩, HQ⟩
  iapply (front_run P K c f0 f1)
  isplitl [Hbell Hready HI Hat Hc HO H9 H0 H1]
  · isplitr [H0 H1]
    · unfold barrierPre
      isplitl [Hbell]; · iexact Hbell
      isplitl [Hready]; · iexact Hready
      isplitl [H9]; · iapply (stg_split c f9); iexact H9
      isplitl [HI]; · iexact HI
      isplitl [Hat]; · iexact Hat
      isplitl [Hc]; · iexact Hc
      isplitr; · iexact Hlev
      iexact HO
    isplitl [H0] <;> iassumption
  iintro %v2 ⟨Hbp, H0, H1⟩
  unfold barrierPost
  icases Hbp with ⟨Hb, Hpay, HO⟩
  iapply (compute c v2 f0 f1 f2 f3 f4 f6 f7 f8 (fun a1 a2 a3 a4 => exchange (F := F) c v2 a1 a2 a3 a4) (xRows f0 0) f1 (constant S512x512 .f32 0x00000000#32) rfl rfl rfl)
  isplitl [H0 H1 H2 H3 H4 H6 H7 H8]
  · isplitl [H0]; · iexact H0
    isplitl [H1]; · iexact H1
    isplitl [H2]; · iexact H2
    isplitl [H3]; · iexact H3
    isplitl [H4]; · iexact H4
    isplitl [H6]; · iexact H6
    isplitl [H7] <;> iassumption
  iintro %a1 %a2 %a3 %a4 ⟨H0, H1, H2, H3, H4, H6, H7, H8⟩
  iapply (exchange_run P K c v2 a1 a2 a3 a4 f5)
  isplitl [Hl1 Hl2 Hpay HO H8 H5]
  · isplitr [H5]
    · unfold exchangePre
      isplitl [Hl1]; · iexact Hl1
      isplitl [Hl2]; · iexact Hl2
      isplitl [Hpay]; · iexact Hpay
      isplitr; · iexact Hlev
      isplitl [H8]
      · rw [accPts_whole, hP]; iexact H8
      iexact HO
    iexact H5
  unfold exchangePost
  iintro ⟨⟨Hu1, Hu2, Hs, Hacc, HO⟩, H5⟩
  iapply HQ
  isplitl [Hb]; · iexact Hb
  isplitl [Hu1 Hu2]; · isplitl [Hu1] <;> iassumption
  isplitl [HO]; · iexact HO
  isplitl [H6 H7 Hs Hacc]
  · isplitl [H6]; · iexact H6
    isplitl [H7]; · iexact H7
    isplitl [Hacc]; · iexists total P; iapply (Entails.of_eq (accPts_whole c (total P))); iexact Hacc
    iapply (stg_join c f9); iexact Hs
  isplitr [H5]
  · isplitl [H0]; · iexact H0
    isplitl [H1]; · iexact H1
    isplitl [H2]; · iexact H2
    isplitl [H3] <;> iassumption
  iexact H5

end Cert.KernelIdeal.Talk

end
-- ==== Proof.Region.lean ====
/-
  The kernel as a region of the program: what it starts from, the arrays it reads, and the array it leaves.
-/
module

public import proofs.«01_k».proof.Proof.Body
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit.Geometry

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The values -/

/-- The product of device `d`, of the operands its host program leaves. -/
def parts (d : Dev nD) : Acc F :=
  partialSum (V1 m d main_arg0) (V1 m d main_arg1) (V1 m d main_v15) (V1 m d main_v16) (V1 m d main_arg4)
/-- What every device's result holds at the end. -/
def result : Vec F S2x512x768 .f32 := batches (total (parts m))
/-- The result array after the region. -/
def outs : Outs (F := F) := fun _ r c => Function.update (V1 m c) main_v17 (result m) r

/-- Device `c`'s buffers after the region. -/
abbrev VE (c : Dev nD) : Valuation τ sig (Elt F) := V2 m (outs m) c

theorem VE_out (c : Dev nD) : VE m c main_v17 = result m := by
  dsimp only [VE, V2, outs]
  rw [Function.update_self, Function.update_self]
theorem VE_of (c : Dev nD) (r : Ref sig .tc) (h : r ≠ main_v17) : VE m c r = V1 m c r :=
  V2_of m (outs m) c r (by simpa using h)

/-! ## What the region starts from and ends with -/

/-- What device `c` keeps of the cells of a step while they are not open. -/
def shut (P : Dev nD → Acc F) (K : GSem nD τ sig → ℕ) (s r : Fin 4) (c : Dev nD) (k : Fin 5) : sProp 𝕄 :=
  iprop(cellInv ER (Rd P) (K (cell s k c)) (cell s k c) ∗ cellInv ER (Rd P) (K (cell r k c)) (cell r k c)
    ∗ cellInv ER (Rd P) (K (cell r k (pr k c))) (cell r k (pr k c))
    ∗ openTok ER (cell s k c) ∗ openTok ER (cell r k c)
    ∗ dutyTok ER (cell s k c) 0 0 ∗ dutyTok ER (cell r k (pr k c)) 0 0 ∗ cred (tallyAt (cell r k c) () (N k)))

/-- The two cells of a step opened. -/
theorem shut_open (P : Dev nD → Acc F) (K : GSem nD τ sig → ℕ) (s r : Fin 4) (c : Dev nD) (k : Fin 5) :
    iprop(shut P K s r c k ∗ unlinked s r c k) ⊢ (|={Set.univ}=> iprop(link P K s r c k ∗ reached ER (cell r k c) 0) : sProp 𝕄) := by
  unfold shut unlinked link
  iintro ⟨⟨#H1, #H2, H3, Ho1, Ho2, Ht1, Ht2, Hc⟩, Hv1, Hv2⟩
  imod (Rounds.cell_open ER (Rd P) (g := cell s k c) (Set.mem_univ (K (cell s k c)))) $$ [Ho1 Hv1] with ⟨Ha1, #Hr1⟩
  · isplitr; · iexact H1
    isplitl [Ho1] <;> iassumption
  imod (Rounds.cell_open ER (Rd P) (g := cell r k c) (Set.mem_univ (K (cell r k c)))) $$ [Ho2 Hv2] with ⟨Ha2, #Hr2⟩
  · isplitr; · iexact H2
    isplitl [Ho2] <;> iassumption
  imodintro
  isplitr []
  · isplitr; · iexact H1
    isplitr; · iexact H2
    isplitl [H3]; · iexact H3
    isplitl [Ha1]; · iexact Ha1
    isplitl [Ha2]; · iexact Ha2
    isplitr; · iexact Hr1
    isplitl [Ht1]; · iexact Ht1
    isplitl [Ht2]; · iexact Ht2
    iexact Hc
  iexact Hr2

/-- The same of the five steps. -/
theorem shut_open_all (P : Dev nD → Acc F) (K : GSem nD τ sig → ℕ) (s r : Fin 4) (c : Dev nD) :
    iprop((bigSep Finset.univ fun k : Fin 5 => shut P K s r c k) ∗ (bigSep Finset.univ fun k : Fin 5 => unlinked s r c k))
      ⊢ (|={Set.univ}=> iprop((bigSep Finset.univ fun k : Fin 5 => link P K s r c k)
          ∗ (bigSep Finset.univ fun k : Fin 5 => reached ER (cell r k c) 0)) : sProp 𝕄) := by
  rw [← bigSep_sep', ← bigSep_sep']
  exact (bigSep_mono fun k _ => shut_open P K s r c k).trans (bigSep_fupd _ _)

/-- What device `c` has of the protocol from the launch to the region. -/
def ghost (P : Dev nD → Acc F) (K : GSem nD τ sig → ℕ) (c : Dev nD) : sProp 𝕄 :=
  iprop((bigSep Finset.univ fun k : Fin 5 => bell P K c k)
    ∗ (cellInv ER (Rd P) (K (barCell c)) (barCell c) ∗ atPos ER (barCell c) 0 ∅ 0 ∗ cred (tallyAt (barCell c) () 5))
    ∗ (bigSep Finset.univ fun k : Fin 5 => shut P K 0 1 c k) ∗ (bigSep Finset.univ fun k : Fin 5 => shut P K 2 3 c k))

/-- The kernel's own counters, by kinds and steps. -/
theorem ownSems_eq (c : Dev nD) : (Pipeline.ownSems0 osem c : sProp 𝕄)
    = iprop((bigSep Finset.univ fun k : Fin 5 => semVal (cell 0 k c) 0) ∗ (bigSep Finset.univ fun k : Fin 5 => semVal (cell 1 k c) 0)
      ∗ (bigSep Finset.univ fun k : Fin 5 => semVal (cell 2 k c) 0) ∗ (bigSep Finset.univ fun k : Fin 5 => semVal (cell 3 k c) 0)) := by
  have h : (Pipeline.ownSems0 osem c : sProp 𝕄) = bigSep Finset.univ fun i : Fin 4 => bigSep Finset.univ fun k : Fin 5 => semVal (cell i k c) 0 :=
    (show (Pipeline.ownSems0 osem c : sProp 𝕄) = bigSep Finset.univ fun p : Fin 4 × Fin 5 => semVal ((c : Thread nD τ), osem p) 0 from rfl).trans
      (bigSep_univ_prod _)
  exact h.trans (bigSep_univ_eq_bigSepL [0, 1, 2, 3] (by decide) (by decide) _)

theorem counters_of_own (c : Dev nD) : (Pipeline.ownSems0 osem c : sProp 𝕄) ⊢ counters c := by
  rw [ownSems_eq]; unfold counters unlinked; rw [bigSep_sep', bigSep_sep']
  iintro ⟨H0, H1, H2, H3⟩
  isplitl [H0 H1]; · isplitl [H0] <;> iassumption
  isplitl [H2] <;> iassumption

theorem own_of_counters (c : Dev nD) : (counters c : sProp 𝕄) ⊢ Pipeline.ownSems0 osem c := by
  rw [ownSems_eq]; unfold counters unlinked; rw [bigSep_sep', bigSep_sep']
  iintro ⟨⟨H0, H1⟩, H2, H3⟩
  isplitl [H0]; · iexact H0
  isplitl [H1]; · iexact H1
  isplitl [H2] <;> iassumption

def Tk (c : Dev nD) : sProp 𝕄 := iprop(∃ K, ghost (parts m) K c)
def Xk (c : Dev nD) : sProp 𝕄 := iprop((∃ K, opened (parts m) K c) ∗ levAts L lv)
def Yk (c : Dev nD) : sProp 𝕄 := semVal (barCell c) 0

theorem hopen (c : Dev nD) : iprop(Tk m c ∗ Pipeline.ownSems0 osem c ∗ levAts L lv) ⊢ (|={Set.univ}=> Xk m c : sProp 𝕄) := by
  unfold Tk Xk ghost
  iintro ⟨⟨%K, Hb, Hbar, Hs1, Hs2⟩, Hc, Hlev⟩
  ihave Hc' := (counters_of_own c) $$ Hc
  unfold counters
  icases Hc' with ⟨Hc1, Hc2⟩
  imod (shut_open_all (parts m) K 0 1 c) $$ [Hs1 Hc1] with ⟨Hl1, Hr1⟩
  · isplitl [Hs1] <;> iassumption
  imod (shut_open_all (parts m) K 2 3 c) $$ [Hs2 Hc2] with ⟨Hl2, Hr2⟩
  · isplitl [Hs2] <;> iassumption
  imodintro
  isplitr [Hlev]
  · iexists K
    unfold opened ready
    rw [bigSep_sep']
    isplitl [Hb]; · iexact Hb
    isplitl [Hr1 Hr2]
    · isplitl [Hr1] <;> iassumption
    isplitl [Hbar]; · iexact Hbar
    isplitl [Hl1] <;> iassumption
  iexact Hlev

/-! ## The region's data -/

/-- The region: its arrays hold what the host program left; it reads five and writes the sixth. -/
def dat (c : Dev nD) : Dat τ (Elt F) Unit ℕ UU ℕ cfg0 c where
  A w := V1 m c (Proc.devRef .tc (Pipeline.arrRef spec0 w))
  after w _ := match w with
    | ⟨0, _⟩ => V1 m c main_arg0
    | ⟨1, _⟩ => V1 m c main_arg1
    | ⟨2, _⟩ => V1 m c main_v15
    | ⟨3, _⟩ => V1 m c main_v16
    | ⟨4, _⟩ => V1 m c main_arg4
    | ⟨5, _⟩ => result m
  Φ t := if t.val = 0 then iprop(Xk m c ∗ scratch c ∗ ∃ r, prngReg c r)
    else iprop(Yk c ∗ counters c ∗ scratch c ∗ ∃ r, prngReg c r)
  q _ := fullShare
  owed t := if t.val = 0 then owed (dues c) else 0

def pdats : (p : Fin 1) → (c : Dev nD) → Dat τ (Elt F) Unit ℕ UU ℕ (Pipeline.pin (pcfgs (F := F)) adm p) c
  | 0 => dat m

theorem owed_first (c : Dev nD) : (dat m c).owed t0_0.castSucc = owed (dues c) := by
  show (if (t0_0.castSucc : Fin (cfg0.N + 1)).val = 0 then owed (dues c) else 0) = _; exact if_pos rfl
theorem owed_last (c : Dev nD) : (dat m c).owed (Fin.last _) = 0 := by
  show (if (Fin.last cfg0.N).val = 0 then owed (dues c) else 0) = 0
  rw [Fin.val_last, if_neg (by rw [show cfg0.N = 1 from N_0]; decide)]

/-! ### The body -/

theorem before0 (c : Dev nD) (d) : (dat m c).before 0 t0_0 d = V1 m c main_arg0 := by
  unfold Dat.before; rw [if_pos (fetch0_0 t0_0)]
  funext y
  show V1 m c main_arg0 (((cfg0.win 0).blk t0_0).view.emb y) = _
  blk_ext <;> exact (congrArg (· + _) (Nat.zero_mul _)).trans (Nat.zero_add _)
theorem before1 (c : Dev nD) (d) : (dat m c).before 1 t0_0 d = V1 m c main_arg1 := by
  unfold Dat.before; rw [if_pos (fetch0_1 t0_0)]
  funext y
  show V1 m c main_arg1 (((cfg0.win 1).blk t0_0).view.emb y) = _
  blk_ext <;> exact (congrArg (· + _) (Nat.zero_mul _)).trans (Nat.zero_add _)
theorem before2 (c : Dev nD) (d) : (dat m c).before 2 t0_0 d = V1 m c main_v15 := by
  unfold Dat.before; rw [if_pos (fetch0_2 t0_0)]
  funext y
  show V1 m c main_v15 (((cfg0.win 2).blk t0_0).view.emb y) = _
  blk_ext <;> exact (congrArg (· + _) (Nat.zero_mul _)).trans (Nat.zero_add _)
theorem before3 (c : Dev nD) (d) : (dat m c).before 3 t0_0 d = V1 m c main_v16 := by
  unfold Dat.before; rw [if_pos (fetch0_3 t0_0)]
  funext y
  show V1 m c main_v16 (((cfg0.win 3).blk t0_0).view.emb y) = _
  blk_ext <;> exact (congrArg (· + _) (Nat.zero_mul _)).trans (Nat.zero_add _)
theorem before4 (c : Dev nD) (d) : (dat m c).before 4 t0_0 d = V1 m c main_arg4 := by
  unfold Dat.before; rw [if_pos (fetch0_4 t0_0)]
  funext y
  show V1 m c main_arg4 (((cfg0.win 4).blk t0_0).view.emb y) = _
  blk_ext <;> exact (congrArg (· + _) (Nat.zero_mul _)).trans (Nat.zero_add _)

/-- The result array ends at what the body leaves in its window. -/
theorem arr_out (c : Dev nD) : (dat m c).arrAt 5 cfg0.N = result m := by
  refine (dat m c).arrAt_eq_of_covers 5 _ (by decide +kernel) fun t hf y => ?_
  obtain rfl := fin_N0 t
  show result m y = result m (((cfg0.win 5).blk t0_0).view.emb y)
  blk_ext <;> exact ((congrArg (· + _) (Nat.zero_mul _)).trans (Nat.zero_add _)).symm

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem body (c : Dev nD) : BodyObligation (dat m c) (defs₀ (F := F)) 𝒱₀ () Set.univ := fun t => by
  obtain rfl := fin_N0 t
  rw [bigSep_W0, bigSep_W0]
  rw [show (dat m c).Φ t0_0.castSucc = iprop(Xk m c ∗ scratch c ∗ ∃ r, prngReg c r) from rfl,
    show (dat m c).Φ t0_0.succ = iprop(Yk c ∗ counters c ∗ scratch c ∗ ∃ r, prngReg c r) from rfl]
  simp only [before0, before1, before2, before3, before4]
  unfold Xk
  iintro ⟨⟨⟨⟨%K, Hg⟩, Hlev⟩, Hs, Hp⟩, HO, ⟨%d0, H0⟩, ⟨%d1, H1⟩, ⟨%d2, H2⟩, ⟨%d3, H3⟩, ⟨%d4, H4⟩, ⟨%d5, H5⟩⟩
  ihave HO' := (owesAt_elim m c _ _ (owed_first m c)) $$ HO
  iapply (body_run (parts m) K c (V1 m c main_arg0) (V1 m c main_arg1) (V1 m c main_v15) (V1 m c main_v16) (V1 m c main_arg4) ((dat m c).before 5 t0_0 d5) rfl)
  isplitl [Hg Hlev HO' Hs H0 H1 H2 H3 H4 H5]
  · isplitl [Hg]; · iexact Hg
    isplitl [Hlev]; · iexact Hlev
    isplitl [HO']; · unfold owing; iexact HO'
    isplitl [Hs]; · iexact Hs
    isplitr [H5]
    · unfold operands
      isplitl [H0]; · iapply (Entails.of_eq (owns_whole (c : Thread nD τ) cc0_stg0_0 fullShare _)); iexact H0
      isplitl [H1]; · iapply (Entails.of_eq (owns_whole (c : Thread nD τ) cc0_stg1_0 fullShare _)); iexact H1
      isplitl [H2]; · iapply (Entails.of_eq (owns_whole (c : Thread nD τ) cc0_stg2_0 fullShare _)); iexact H2
      isplitl [H3]; · iapply (Entails.of_eq (owns_whole (c : Thread nD τ) cc0_stg3_0 fullShare _)); iexact H3
      iapply (Entails.of_eq (owns_whole (c : Thread nD τ) cc0_stg4_0 fullShare _)); iexact H4
    iapply (Entails.of_eq (owns_whole (c : Thread nD τ) cc0_stg5_0 fullShare _)); iexact H5
  unfold operands
  iintro ⟨Hb, Hc, HO, Hs, ⟨H0, H1, H2, H3, H4⟩, H5⟩
  unfold owing
  icases HO with ⟨%W, HO⟩
  isplitl [Hb Hc Hs Hp]
  · isplitl [Hb]; · unfold Yk; iexact Hb
    isplitl [Hc]; · iexact Hc
    isplitl [Hs]; · iexact Hs
    iexact Hp
  isplitl [HO]; · iapply (owesAt_intro m c t0_0.succ 0 (owed_last m c) W); iexact HO
  isplitl [H0]; · iapply (Entails.of_eq (owns_whole (c : Thread nD τ) cc0_stg0_0 fullShare _).symm); iexact H0
  isplitl [H1]; · iapply (Entails.of_eq (owns_whole (c : Thread nD τ) cc0_stg1_0 fullShare _).symm); iexact H1
  isplitl [H2]; · iapply (Entails.of_eq (owns_whole (c : Thread nD τ) cc0_stg2_0 fullShare _).symm); iexact H2
  isplitl [H3]; · iapply (Entails.of_eq (owns_whole (c : Thread nD τ) cc0_stg3_0 fullShare _).symm); iexact H3
  isplitl [H4]; · iapply (Entails.of_eq (owns_whole (c : Thread nD τ) cc0_stg4_0 fullShare _).symm); iexact H4
  iapply (Entails.of_eq (owns_whole (c : Thread nD τ) cc0_stg5_0 fullShare _).symm); iexact H5

/-! ## The record -/

theorem hin (c : Dev nD) : iprop(Pipeline.scopedRest (Pipeline.pin (pcfgs (F := F)) adm 0).spec c ∗ (∃ r, prngReg c r)
      ∗ StableHlo.held (c.tc : Thread nD τ) ∅ (V1 m c) ∗ Xk m c) ⊢ (pdats m 0 c).Φ 0 := by
  rw [show (pdats m 0 c).Φ 0 = iprop(Xk m c ∗ scratch c ∗ ∃ r, prngReg c r) from rfl,
    show (Pipeline.scopedRest (Ix := Unit) (Name := ℕ) (U := UU) (Lvl := ℕ) (Val := Elt F) (Pipeline.pin (pcfgs (F := F)) adm 0).spec c : sProp 𝕄) = scratch c
      from scopedRest0_eq c]
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (VE m c) ∗ Pipeline.ownSems0 osem c ∗ Yk c) := by
  rw [show (pdats m 0 c).Φ (Fin.last _) = iprop(Yk c ∗ counters c ∗ scratch c ∗ ∃ r, prngReg c r) from rfl,
    show (Pipeline.scopedRest (Ix := Unit) (Name := ℕ) (U := UU) (Lvl := ℕ) (Val := Elt F) (Pipeline.pin (pcfgs (F := F)) adm 0).spec c : sProp 𝕄) = scratch c
      from scopedRest0_eq c,
    show (StableHlo.held (c.tc : Thread nD τ) ∅ (VE m c) : sProp 𝕄) = BI.emp from BI.bigSep_empty]
  iintro ⟨HY, Hc, Hs, Hp⟩
  isplitl [Hs]; · iexact Hs
  isplitl [Hp]; · iexact Hp
  isplitr; · iempintro
  isplitl [Hc]; · iapply (own_of_counters c); iexact Hc
  iexact HY

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- All that is owed lies above level zero, at assigned cells. -/
theorem dues_level (c : Dev nD) : ∀ q ∈ dues c, q.1.1.2 = .tc ∧ 0 < lv q.1 () := by
  intro q hq
  rcases List.mem_append.1 (show q ∈ (dues c).take 5 ++ laterDues c from by unfold laterDues; rw [List.take_append_drop]; exact hq) with h | h
  · have : ∃ k, q = (barCell (pr k c), 1) := by
      simp only [dues, List.take, List.mem_cons, List.not_mem_nil, or_false] at h
      rcases h with h | h | h | h | h
      exacts [⟨_, h⟩, ⟨_, h⟩, ⟨_, h⟩, ⟨_, h⟩, ⟨_, h⟩]
    obtain ⟨k, rfl⟩ := this
    exact ⟨rfl, by rw [lv_bar]; decide⟩
  · exact ⟨(above_bar c q h).1, Nat.lt_trans Nat.zero_lt_one (above_bar c q h).2⟩

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then owed (dues c) else 0 := rfl
  rw [e] at h
  split at h
  · obtain ⟨n, hn⟩ := owed_pos h
    have := dues_level c _ hn
    exact ⟨by unfold L; rw [if_pos this.1]; exact Finset.mem_singleton_self _, this.2⟩
  · exact absurd h (Nat.lt_irrefl 0)

/-- The staging semaphores lie at level zero. -/
theorem lv_stage (c : Dev nD) : ∀ (w : Fin (Pipeline.pin (pcfgs (F := F)) adm 0).W) (s : Fin ((Pipeline.pin (pcfgs (F := F)) adm 0).win w).nbuf),
    lv ((c : Thread nD τ), .dma (((Pipeline.pin (pcfgs (F := F)) adm 0).win w).sem s)) () = 0 := by
  have h : ∀ (w : Fin 6) (s : Fin (win0 w).nbuf), dec (.dma ((win0 w).sem s)) = none := by decide
  intro w s
  unfold lv
  rw [if_neg (by intro h; cases h)]
  show (match dec (.dma ((win0 w).sem s)) with | some (1, k) => 2 + k.val | some (3, k) => 11 - k.val | _ => 0) = 0
  rw [h w s]

/-- The buffers beside the region's arrays. -/
abbrev others : Finset (DevRef τ sig) := Pipeline.ucRefs τ sig \ Pipeline.arrRefs (τ := τ) spec0

theorem others_same (c : Dev nD) : ∀ b ∈ others \ ∅, VE m c b = V1 m c b := by
  intro b hb
  have h : b ∉ Pipeline.arrRefs (τ := τ) spec0 := (Finset.mem_sdiff.1 (Finset.mem_sdiff.1 hb).1).2
  have h17 : Proc.devRef .tc main_v17 ∈ Pipeline.arrRefs (τ := τ) spec0 :=
    Finset.mem_map_of_mem _ (Finset.mem_image.2 ⟨(5 : Fin 6), Finset.mem_univ _, rfl⟩)
  dsimp only [VE, V2]
  refine Function.update_of_ne ?_ _ _
  rintro rfl
  exact h h17

theorem arr_in (c : Dev nD) (w : Fin 6) : (pdats m 0 c).arrAt w 0 = V1 m c (Proc.devRef .tc (Pipeline.arrRef spec0 w)) := rfl

theorem arr_end (c : Dev nD) (w : Fin 6) :
    (dat m c).arrAt w cfg0.N = VE m c (Proc.devRef .tc (Pipeline.arrRef spec0 w)) := by
  match w with
  | ⟨0, _⟩ => exact ((dat m c).arrAt_in 0 rfl _).trans (VE_of m c main_arg0 (by decide)).symm
  | ⟨1, _⟩ => exact ((dat m c).arrAt_in 1 rfl _).trans (VE_of m c main_arg1 (by decide)).symm
  | ⟨2, _⟩ => exact ((dat m c).arrAt_in 2 rfl _).trans (VE_of m c main_v15 (by decide)).symm
  | ⟨3, _⟩ => exact ((dat m c).arrAt_in 3 rfl _).trans (VE_of m c main_v16 (by decide)).symm
  | ⟨4, _⟩ => exact ((dat m c).arrAt_in 4 rfl _).trans (VE_of m c main_arg4 (by decide)).symm
  | ⟨5, _⟩ => exact (arr_out m c).trans (VE_out m c).symm

theorem share_eq (c : Dev nD) (w : Fin 6) : (dat m c).share w = fullShare := by unfold Dat.share; split <;> rfl

set_option backward.isDefEq.respectTransparency.types false in
/-- The region's record: it starts from what the host program left and all that is due, and ends with the
    result in place and nothing due. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kitP rfl (fun c => (body m c).loose)
    (fun _ => 0) (fun c => owed (dues c)) (fun c => (owed_first m c).trans (zero_add _).symm) (owed_last m) (fun _ => rfl) (share_eq m)
    (V1 m) (VE m) (others_same m)
    (Tk m) Yk (Xk m) Yk (hopen m) (hin m) (hout m)
    (fun c => by iintro H; imodintro; iexact H)
    (fun _ => 0)
    ⟨fun c w s => by rw [L_tc]; exact Finset.mem_singleton_self _, fun c w s => Nat.le_of_eq (lv_stage c w s), fun c t g i h => cutD m c t g i h⟩
    (fun _ => iprop(emp))
    (arr_in m) (arr_end m)

end Cert.KernelIdeal.Talk

end
-- ==== Proof.Funding.lean ====
/-
  What the launch gives out: the cells, the right to each payment, and what each device may expect to be
  paid by the others.
-/
module

public import proofs.«01_k».proof.Proof.Region
public import Idealize.ShloMosaic.Harness.Basic
public import Idealize.ShloMosaic.Lib.Pipeline.CollectiveSegs

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The cells -/

theorem barCell_injective : Function.Injective (barCell : Dev nD → GSem nD τ sig) :=
  fun _ _ h => congrArg (fun g : GSem nD τ sig => g.1.1) h
theorem barCell_ne (c d : Dev nD) (i : Fin 4) (k : Fin 5) : barCell c ≠ cell i k d :=
  fun h => osem_ne_bar i k (congrArg Prod.snd h).symm
theorem cell_eq_iff (i j : Fin 4) (k l : Fin 5) (c d : Dev nD) : cell i k c = cell j l d ↔ i = j ∧ k = l ∧ c = d := by
  constructor
  · intro h
    have h' := osem_injective (congrArg Prod.snd h)
    exact ⟨congrArg Prod.fst h', congrArg Prod.snd h', congrArg (fun g : GSem nD τ sig => g.1.1) h⟩
  · rintro ⟨rfl, rfl, rfl⟩; rfl

def barEmb : Dev nD ↪ GSem nD τ sig := ⟨barCell, barCell_injective⟩
def talkEmb : Dev nD × (Fin 4 × Fin 5) ↪ GSem nD τ sig :=
  ⟨fun p => cell p.2.1 p.2.2 p.1, fun p q h => by
    obtain ⟨h1, h2, h3⟩ := (cell_eq_iff _ _ _ _ _ _).mp h
    exact Prod.ext h3 (Prod.ext h1 h2)⟩

/-- The barrier cells, and the cells of the copies. -/
abbrev barCells : Finset (GSem nD τ sig) := Finset.univ.map barEmb
abbrev talkCells : Finset (GSem nD τ sig) := Finset.univ.map talkEmb

theorem disjoint_cells : Disjoint (barCells : Finset (GSem nD τ sig)) talkCells := by
  rw [Finset.disjoint_left]
  rintro g h₁ h₂
  obtain ⟨c, -, rfl⟩ := Finset.mem_map.mp h₁
  obtain ⟨p, -, h⟩ := Finset.mem_map.mp h₂
  exact barCell_ne c p.1 p.2.1 p.2.2 h.symm

theorem bar_mem (c : Dev nD) : barCell c ∈ (barCells ∪ talkCells : Finset (GSem nD τ sig)) :=
  Finset.mem_union_left _ (Finset.mem_map_of_mem barEmb (Finset.mem_univ c))
theorem cell_mem (i : Fin 4) (k : Fin 5) (c : Dev nD) : cell i k c ∈ (barCells ∪ talkCells : Finset (GSem nD τ sig)) :=
  Finset.mem_union_right _ (Finset.mem_map_of_mem talkEmb (Finset.mem_univ (c, (i, k))))

/-! ## The payments -/

/-- The payment a device receives at an index: a barrier signal of a step, or the one payment of a copy's cell. -/
def payment (p : Dev nD × (Fin 5 ⊕ Fin 4 × Fin 5)) : GSem nD τ sig × ℕ × Fin 5 :=
  match p.2 with
  | .inl k => (barCell p.1, 0, k)
  | .inr q => (cell q.1 q.2 p.1, 0, 0)

theorem payment_injective : Function.Injective payment := by
  rintro ⟨c, k | ⟨i, k⟩⟩ ⟨d, l | ⟨j, l⟩⟩ h
  · have h1 : barCell c = barCell d := congrArg Prod.fst h
    have h2 : k = l := congrArg (fun t : GSem nD τ sig × ℕ × Fin 5 => t.2.2) h
    rw [barCell_injective h1, h2]
  · exact absurd (congrArg Prod.fst h) (barCell_ne c d j l)
  · exact absurd (congrArg Prod.fst h).symm (barCell_ne d c i k)
  · obtain ⟨h1, h2, h3⟩ := (cell_eq_iff i j k l c d).mp (congrArg Prod.fst h)
    rw [h1, h2, h3]

def payments : Finset (GSem nD τ sig × ℕ × Fin 5) := Finset.univ.map ⟨payment, payment_injective⟩

/-- The rights to the payments of one kind of copy. -/
def toksOf (i : Fin 4) (f : Fin 5 → Dev nD → Dev nD) (c : Dev nD) : sProp 𝕄 :=
  bigSep Finset.univ fun k : Fin 5 => dutyTok ER (cell i k (f k c)) 0 0
/-- The rights to the signals of the barrier. -/
def bellToks (f : Fin 5 → Dev nD → Dev nD) (c : Dev nD) : sProp 𝕄 :=
  bigSep Finset.univ fun k : Fin 5 => dutyTok ER (barCell (f k c)) 0 k

omit [FloatOps F] in
/-- A family over the four kinds and five steps, by kinds. -/
theorem by_kinds (Φ : Fin 4 → Fin 5 → sProp 𝕄) :
    (bigSep Finset.univ fun q : Fin 4 × Fin 5 => Φ q.1 q.2)
      = iprop((bigSep Finset.univ (Φ 0)) ∗ (bigSep Finset.univ (Φ 1)) ∗ (bigSep Finset.univ (Φ 2)) ∗ (bigSep Finset.univ (Φ 3))) :=
  (bigSep_univ_prod _).trans (bigSep_univ_eq_bigSepL [0, 1, 2, 3] (by decide) (by decide) _)

omit [FloatOps F] in
/-- The rights to all payments, each with the device that is paid. -/
theorem payments_eq : bigSep payments (fun x => (dutyTok ER x.1 x.2.1 x.2.2 : sProp 𝕄))
    = bigSep Finset.univ fun c : Dev nD => iprop(bellToks (fun _ => id) c
        ∗ toksOf 0 (fun _ => id) c ∗ toksOf 1 (fun _ => id) c ∗ toksOf 2 (fun _ => id) c ∗ toksOf 3 (fun _ => id) c) := by
  unfold payments; rw [bigSep_map, bigSep_univ_prod]
  refine bigSep_congr fun c _ => (bigSep_univ_sum _).trans ?_
  exact congrArg (fun X => iprop(bellToks (fun _ => id) c ∗ X)) (by_kinds (fun i k => dutyTok ER (cell i k c) 0 0))

omit [FloatOps F] in
/-- A family over devices and steps may be dealt across each step's pairs. -/
theorem across (Φ : Dev nD → Fin 5 → sProp 𝕄) :
    (bigSep Finset.univ fun c : Dev nD => bigSep Finset.univ fun k : Fin 5 => Φ c k)
      = bigSep Finset.univ fun c : Dev nD => bigSep Finset.univ fun k : Fin 5 => Φ (pr k c) k := by
  rw [bigSep_univ_comm, bigSep_univ_comm (fun (c : Dev nD) (k : Fin 5) => Φ (pr k c) k)]
  exact bigSep_congr fun k _ => bigSep_univ_equiv (prEquiv k) (fun c => Φ c k)

omit [FloatOps F] in
/-- The rights to the barrier signals and to the receipts go to the devices that pay them. -/
theorem payments_around : bigSep payments (fun x => (dutyTok ER x.1 x.2.1 x.2.2 : sProp 𝕄))
    ⊢ bigSep Finset.univ fun c : Dev nD => iprop(bellToks pr c
        ∗ toksOf 0 (fun _ => id) c ∗ toksOf 1 pr c ∗ toksOf 2 (fun _ => id) c ∗ toksOf 3 pr c) := by
  refine Entails.of_eq (payments_eq.trans ?_)
  rw [bigSep_sep', bigSep_sep', bigSep_sep', bigSep_sep', bigSep_sep', bigSep_sep', bigSep_sep', bigSep_sep']
  unfold bellToks toksOf
  rw [← across (fun c k => (dutyTok ER (barCell c) 0 k : sProp 𝕄)), ← across (fun c k => (dutyTok ER (cell 1 k c) 0 0 : sProp 𝕄)),
    ← across (fun c k => (dutyTok ER (cell 3 k c) 0 0 : sProp 𝕄))]
  rfl

/-! ## What each device may expect -/

/-- What a list of dues owes one cell. -/
theorem owed_apply (l : List (GSem nD τ sig × ℕ)) (g : GSem nD τ sig) :
    owed l g () = (l.map fun q => if g = q.1 then q.2 else 0).sum := by
  induction l with
  | nil => rfl
  | cons p l ih =>
    show (owed l + tallyAt p.1 () p.2) g () = _
    rw [Pi.add_apply, Finsupp.add_apply, ih, tallyAt_apply, List.map_cons, List.sum_cons, add_comm]
    simp only [and_true]

/-- What one device owes a cell: a signal, a receipt of the reduction and one of the gathering at every step. -/
theorem dues_apply (d : Dev nD) (g : GSem nD τ sig) :
    owed (dues d) g () = ∑ k : Fin 5, ((if g = barCell (pr k d) then 1 else 0)
      + (if g = cell 1 k (pr k d) then N k else 0) + (if g = cell 3 k (pr k d) then N k else 0)) := by
  rw [owed_apply, Fin.sum_univ_five]
  simp only [dues, List.map_cons, List.map_nil, List.sum_cons, List.sum_nil, Nat.add_zero]
  ac_rfl

/-- What all devices together owe a cell. -/
theorem all_dues (g : GSem nD τ sig) :
    (∑ d : Dev nD, owed (dues d) g ()) = ∑ k : Fin 5, ∑ d : Dev nD, ((if g = barCell d then 1 else 0)
      + (if g = cell 1 k d then N k else 0) + (if g = cell 3 k d then N k else 0)) := by
  rw [Finset.sum_congr rfl fun d _ => dues_apply d g, Finset.sum_comm]
  exact Finset.sum_congr rfl fun k _ => Equiv.sum_comp (prEquiv k) fun d => (if g = barCell d then 1 else 0)
      + (if g = cell 1 k d then N k else 0) + (if g = cell 3 k d then N k else 0)

theorem all_dues_bar (c : Dev nD) : (∑ d : Dev nD, owed (dues d) (barCell c) ()) = 5 := by
  rw [all_dues]
  have h (k : Fin 5) : (∑ d : Dev nD, ((if barCell c = barCell d then 1 else 0)
      + (if barCell c = cell 1 k d then N k else 0) + (if barCell c = cell 3 k d then N k else 0))) = 1 := by
    rw [Finset.sum_congr rfl fun d _ => show _ = if c = d then 1 else 0 by
      rw [if_neg (barCell_ne c d 1 k), if_neg (barCell_ne c d 3 k), Nat.add_zero,
        if_congr (barCell_injective.eq_iff (a := c) (b := d)) rfl rfl]]
    rw [Finset.sum_ite_eq, if_pos (Finset.mem_univ c)]
  rw [Finset.sum_congr rfl fun k _ => h k]; rfl

theorem all_dues_cell (i : Fin 4) (hi : i = 1 ∨ i = 3) (j : Fin 5) (c : Dev nD) :
    (∑ d : Dev nD, owed (dues d) (cell i j c) ()) = N j := by
  rw [all_dues]
  have h (k : Fin 5) : (∑ d : Dev nD, ((if cell i j c = barCell d then 1 else 0)
      + (if cell i j c = cell 1 k d then N k else 0) + (if cell i j c = cell 3 k d then N k else 0))) = if j = k then N k else 0 := by
    rw [Finset.sum_congr rfl fun d _ => show _ = if c = d then (if j = k then N k else 0) else 0 by
      rw [if_neg (fun h => barCell_ne d c i j h.symm), Nat.zero_add,
        if_congr (cell_eq_iff i 1 j k c d) rfl rfl, if_congr (cell_eq_iff i 3 j k c d) rfl rfl]
      rcases hi with rfl | rfl <;> by_cases h1 : j = k <;> by_cases h2 : c = d <;> simp [h1, h2]]
    rw [Finset.sum_ite_eq, if_pos (Finset.mem_univ c)]
  rw [Finset.sum_congr rfl fun k _ => h k, Finset.sum_ite_eq, if_pos (Finset.mem_univ j)]

theorem launch_at (g : GSem nD τ sig) (n : ℕ) (h : (∑ d : Dev nD, owed (dues d) g ()) = n) (hg : g.1.2 = .tc) :
    tallyOn g (launchCredit (Pipeline.owing fun d => owed (dues d)) 0 g) = (tallyAt g () n : CellTallies nD τ sig Unit) := by
  obtain ⟨⟨c, t⟩, s⟩ := g
  obtain rfl : t = .tc := hg
  unfold tallyAt; refine congrArg _ (Finsupp.ext fun u => ?_); cases u
  exact (Pipeline.launchCredit_owing _ _ _).trans (h.trans (Finsupp.single_eq_same).symm)

/-- A device's credits: the five signals of its barrier cell and the receipts of its copies' cells. -/
theorem creds (c : Dev nD) : (Pipeline.launchCred (fun d => owed (dues d)) c : sProp 𝕄)
    ⊢ iprop(cred (tallyAt (barCell c) () 5) ∗ (bigSep Finset.univ fun k : Fin 5 => cred (tallyAt (cell 1 k c) () (N k)))
      ∗ (bigSep Finset.univ fun k : Fin 5 => cred (tallyAt (cell 3 k c) () (N k)))) := by
  have hbar := launch_at (barCell c) 5 (all_dues_bar c) rfl
  have hcell (i : Fin 4) (hi : i = 1 ∨ i = 3) (k : Fin 5) := launch_at (cell i k c) (N k) (all_dues_cell i hi k c) rfl
  unfold Pipeline.launchCred
  rw [bigSep_univ_at _ (SemLoc.reg barrier0), hbar]
  refine sep_mono_right ?_
  have hsub : (Finset.univ.map ⟨osem, osem_injective⟩ : Finset (SemLoc sig)) ⊆ Finset.univ.erase (SemLoc.reg barrier0) := by
    intro s hs
    obtain ⟨p, -, rfl⟩ := Finset.mem_map.mp hs
    exact Finset.mem_erase.mpr ⟨osem_ne_bar p.1 p.2, Finset.mem_univ _⟩
  refine (bigSep_subset hsub).trans ?_
  rw [bigSep_map]
  refine (Entails.of_eq (by_kinds (fun i k => cred (tallyOn (cell i k c)
    (launchCredit (Pipeline.owing fun d => owed (dues d)) 0 (cell i k c)))))).trans ?_
  rw [bigSep_congr (fun k _ => congrArg cred (hcell 1 (.inl rfl) k)), bigSep_congr (fun k _ => congrArg cred (hcell 3 (.inr rfl) k))]
  iintro ⟨-, H1, -, H3⟩
  isplitl [H1] <;> iassumption

end Cert.KernelIdeal.Talk

end
-- ==== Proof.Run.lean ====
/-
  The whole program: the launch gives every device its part of the protocol, the host operations and the
  kernel's region follow, and what every device holds at the end is read off.
-/
module

public import proofs.«01_k».proof.Proof.Funding
public import Idealize.ShloMosaic.Lib.Quiescent

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The protocol's part of each device -/

/-- What every device may consult: the invariant of every cell, and that every barrier cell is at its first round. -/
def records (κ : GSem nD τ sig → ℕ) : sProp 𝕄 :=
  iprop((bigSep (barCells ∪ talkCells) fun g => cellInv ER (Rd (parts m)) (κ g) g) ∗ bigSep barCells fun g => reached ER g 0)

instance records_persistent (κ : GSem nD τ sig → ℕ) : BI.Persistent (records m κ) := by unfold records; infer_instance

theorem record_cell (κ : GSem nD τ sig → ℕ) {g : GSem nD τ sig} (hg : g ∈ (barCells ∪ talkCells : Finset (GSem nD τ sig))) :
    records m κ ⊢ cellInv ER (Rd (parts m)) (κ g) g := by
  unfold records
  have h : (bigSep (barCells ∪ talkCells) fun g => (cellInv ER (Rd (parts m)) (κ g) g : sProp 𝕄)) ⊢ cellInv ER (Rd (parts m)) (κ g) g :=
    bigSep_elim hg
  iintro ⟨H, -⟩
  iapply h; iexact H
theorem record_bar (κ : GSem nD τ sig → ℕ) (c : Dev nD) : records m κ ⊢ reached ER (barCell c) 0 := by
  unfold records
  have h : (bigSep barCells fun g => (reached ER g 0 : sProp 𝕄)) ⊢ reached ER (barCell c) 0 :=
    bigSep_elim (Finset.mem_map_of_mem barEmb (Finset.mem_univ c))
  iintro ⟨-, H⟩
  iapply h; iexact H

/-- A device's own rights on the two cells of a step. -/
def stepRights (s r : Fin 4) (c : Dev nD) (k : Fin 5) : sProp 𝕄 :=
  iprop(openTok ER (cell s k c) ∗ openTok ER (cell r k c)
    ∗ dutyTok ER (cell s k c) 0 0 ∗ dutyTok ER (cell r k (pr k c)) 0 0 ∗ cred (tallyAt (cell r k c) () (N k)))

/-- All of a device's own rights. -/
def rights (c : Dev nD) : sProp 𝕄 :=
  iprop((bigSep Finset.univ fun k : Fin 5 => dutyTok ER (barCell (pr k c)) 0 k)
    ∗ (atPos ER (barCell c) 0 ∅ 0 ∗ cred (tallyAt (barCell c) () 5))
    ∗ (bigSep Finset.univ (stepRights 0 1 c)) ∗ (bigSep Finset.univ (stepRights 2 3 c)))

theorem bell_intro (κ : GSem nD τ sig → ℕ) (c : Dev nD) (k : Fin 5) :
    iprop(records m κ ∗ dutyTok ER (barCell (pr k c)) 0 k) ⊢ bell (parts m) κ c k := by
  unfold bell
  iintro ⟨#HR, H⟩
  isplitr; · iapply (record_cell m κ (bar_mem (pr k c))); iexact HR
  isplitr; · iapply (record_bar m κ (pr k c)); iexact HR
  iexact H

theorem shut_intro (κ : GSem nD τ sig → ℕ) (s r : Fin 4) (c : Dev nD) (k : Fin 5) :
    iprop(records m κ ∗ stepRights s r c k) ⊢ shut (parts m) κ s r c k := by
  unfold shut stepRights
  iintro ⟨#HR, H⟩
  isplitr; · iapply (record_cell m κ (cell_mem s k c)); iexact HR
  isplitr; · iapply (record_cell m κ (cell_mem r k c)); iexact HR
  isplitr; · iapply (record_cell m κ (cell_mem r k (pr k c))); iexact HR
  iexact H

theorem ghost_intro (κ : GSem nD τ sig → ℕ) (c : Dev nD) : iprop(records m κ ∗ rights c) ⊢ Tk m c := by
  unfold rights Tk ghost
  iintro ⟨#HR, Hb, ⟨Ha, Hc⟩, H1, H2⟩
  iexists κ
  isplitl [Hb]
  · iapply (bigSep_with_persistent (R := records m κ) (fun k _ => bell_intro m κ c k))
    isplitr; · iexact HR
    iexact Hb
  isplitl [Ha Hc]
  · isplitr; · iapply (record_cell m κ (bar_mem c)); iexact HR
    isplitl [Ha] <;> iassumption
  isplitl [H1]
  · iapply (bigSep_with_persistent (R := records m κ) (fun k _ => shut_intro m κ 0 1 c k))
    isplitr; · iexact HR
    iexact H1
  · iapply (bigSep_with_persistent (R := records m κ) (fun k _ => shut_intro m κ 2 3 c k))
    isplitr; · iexact HR
    iexact H2

/-- The rights to open the cells of a device's copies. -/
def opens (i : Fin 4) (c : Dev nD) : sProp 𝕄 := bigSep Finset.univ fun k : Fin 5 => openTok ER (cell i k c)
/-- The receipts a device may expect. -/
def receipts (i : Fin 4) (c : Dev nD) : sProp 𝕄 := bigSep Finset.univ fun k : Fin 5 => cred (tallyAt (cell i k c) () (N k))

/-- A device's rights from those given out cell by cell. -/
theorem rights_intro (c : Dev nD) :
    iprop((bellToks pr c ∗ toksOf 0 (fun _ => id) c ∗ toksOf 1 pr c ∗ toksOf 2 (fun _ => id) c ∗ toksOf 3 pr c)
      ∗ (opens 0 c ∗ opens 1 c ∗ opens 2 c ∗ opens 3 c) ∗ atPos ER (barCell c) 0 ∅ 0
      ∗ (cred (tallyAt (barCell c) () 5) ∗ receipts 1 c ∗ receipts 3 c)) ⊢ (rights c : sProp 𝕄) := by
  unfold rights bellToks toksOf opens receipts stepRights
  rw [bigSep_sep', bigSep_sep', bigSep_sep', bigSep_sep', bigSep_sep', bigSep_sep', bigSep_sep', bigSep_sep']
  iintro ⟨⟨Hb, T0, T1, T2, T3⟩, ⟨O0, O1, O2, O3⟩, Ha, Hc, R1, R3⟩
  isplitl [Hb]; · iexact Hb
  isplitl [Ha Hc]; · isplitl [Ha] <;> iassumption
  isplitl [O0 O1 T0 T1 R1]
  · isplitl [O0]; · iexact O0
    isplitl [O1]; · iexact O1
    isplitl [T0]; · iexact T0
    isplitl [T1] <;> iassumption
  · isplitl [O2]; · iexact O2
    isplitl [O3]; · iexact O3
    isplitl [T2]; · iexact T2
    isplitl [T3] <;> iassumption

/-! ## The launch -/

/-- The ghost state at the launch. -/
def u₀ : UU :=
  (initOf (Pipeline.cells (Pipeline.pin (pcfgs (F := F)) adm) cellOf_inj) (Pipeline.launchToks (Pipeline.pin (pcfgs (F := F)) adm) cellOf_inj),
    launchOf barCells talkCells payments)

/-- The exchange's ghost state, kept by one device until it is given out. -/
def kept (c : Dev nD) : sProp 𝕄 := if c = 0 then BI.own (ER (launchOf barCells talkCells payments)) else iprop(emp)
omit [FloatOps F] in
theorem kept_eq : bigSep Finset.univ (kept (F := F)) = BI.own (ER (launchOf barCells talkCells payments)) := by
  rw [bigSep_univ_at _ (0 : Dev nD), bigSep_congr (s := Finset.univ.erase 0) (Ψ := fun _ => (BI.emp : sProp 𝕄))
      fun c hc => by unfold kept; rw [if_neg (Finset.ne_of_mem_erase hc)]; rfl, BI.bigSep_emp_const]
  unfold kept; rw [if_pos rfl]
  exact BI.equiv_iff.mp sep_emp

omit [FloatOps F] in
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- What a device has beside its buffers before the region, and after it. -/
def rest : Fin 2 → Dev nD → sProp 𝕄
  | 0, c => iprop(Tk m c ∗ (∃ r, prngReg c r) ∗ ∃ W, owes (c : Thread nD τ) (owed (dues c)) W)
  | 1, c => iprop(Yk c ∗ ∃ W, owes (c : Thread nD τ) (0 : CellTallies nD τ sig Unit) W)

/-- What a device has at the launch beside its buffers and the ghost state. -/
def early (c : Dev nD) : sProp 𝕄 := iprop((∃ r, prngReg c r) ∗ ∃ W, owes (c : Thread nD τ) (owed (dues c)) W)

theorem rest_intro (κ : GSem nD τ sig → ℕ) (c : Dev nD) :
    iprop(records m κ ∗ (((bellToks pr c ∗ toksOf 0 (fun _ => id) c ∗ toksOf 1 pr c ∗ toksOf 2 (fun _ => id) c ∗ toksOf 3 pr c)
      ∗ (opens 0 c ∗ opens 1 c ∗ opens 2 c ∗ opens 3 c) ∗ atPos ER (barCell c) 0 ∅ 0
      ∗ (cred (tallyAt (barCell c) () 5) ∗ receipts 1 c ∗ receipts 3 c)) ∗ early c)) ⊢ rest m 0 c := by
  show _ ⊢ iprop(Tk m c ∗ (∃ r, prngReg c r) ∗ ∃ W, owes (c : Thread nD τ) (owed (dues c)) W)
  iintro ⟨#HR, Hr, He⟩
  ihave Hr' := (rights_intro c) $$ Hr
  isplitl [Hr']
  · iapply (ghost_intro m κ c)
    isplitr; · iexact HR
    iexact Hr'
  unfold early
  iexact He

/-- The launch: from the counters at zero and what is owed, every device has its part of the protocol. -/
theorem init :
    iprop((bigSep Finset.univ fun c : Dev nD => iprop(unscopedSems0 c ∗ owes (c : Thread nD τ) (owed (dues c)) ∅
          ∗ Pipeline.launchCred (fun d => owed (dues d)) c ∗ prngReg c (ρ c) ∗ kept c)) ∗ levAts L lv)
      ⊢ (|={Set.univ}=> bigSep Finset.univ (rest m 0) : sProp 𝕄) := by
  have hcore (c : Dev nD) : iprop(unscopedSems0 c ∗ owes (c : Thread nD τ) (owed (dues c)) ∅
        ∗ Pipeline.launchCred (fun d => owed (dues d)) c ∗ prngReg c (ρ c) ∗ kept c)
      ⊢ (iprop((cred (tallyAt (barCell c) () 5) ∗ receipts 1 c ∗ receipts 3 c) ∗ early c ∗ semVal (barCell c) 0 ∗ kept c) : sProp 𝕄) := by
    rw [unscopedSems0_eq]
    unfold early receipts
    iintro ⟨Hs, HO, Hcr, Hp, HG⟩
    ihave Hc := (creds (F := F) c) $$ Hcr
    isplitl [Hc]; · iexact Hc
    isplitl [HO Hp]
    · isplitl [Hp]; · iexists (ρ c); iexact Hp
      iexists ∅; iexact HO
    isplitl [Hs] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep talkCells (fun g => (openTok ER g : sProp 𝕄))
      ⊢ bigSep Finset.univ (fun c : Dev nD => iprop(opens 0 c ∗ opens 1 c ∗ opens 2 c ∗ opens 3 c)) :=
    Entails.of_eq (by
      rw [bigSep_map, bigSep_univ_prod]
      exact bigSep_congr fun c _ => by_kinds (fun i k => openTok ER (cell i k c)))
  iintro ⟨H, -⟩
  ihave H' := (show (bigSep Finset.univ fun c : Dev nD => iprop(unscopedSems0 c ∗ owes (c : Thread nD τ) (owed (dues c)) ∅
          ∗ Pipeline.launchCred (fun d => owed (dues d)) c ∗ prngReg c (ρ c) ∗ kept c))
      ⊢ (bigSep Finset.univ fun c : Dev nD => iprop((cred (tallyAt (barCell c) () 5) ∗ receipts 1 c ∗ receipts 3 c)
          ∗ early c ∗ semVal (barCell c) 0 ∗ kept c) : sProp 𝕄) from bigSep_mono fun c _ => hcore c) $$ H
  ihave H2 := Smoke.bigSep_unpair $$ H'; icases H2 with ⟨Hcr, H3⟩
  ihave H4 := Smoke.bigSep_unpair $$ H3; icases H4 with ⟨He, H5⟩
  ihave H6 := Smoke.bigSep_unpair $$ H5; icases H6 with ⟨Hv, HG⟩
  ihave Hu := (show bigSep Finset.univ (kept (F := F)) ⊢ BI.own (ER (launchOf barCells talkCells payments)) from
    Entails.of_eq (kept_eq (F := F))) $$ HG
  imod (Rounds.fund_launch ER (Rd (parts m)) disjoint_cells (fun g _ h => h) payments) $$ [Hv Hu] with ⟨%κ, -, #Hinv, #Hr, Hat, Hopen, Htok⟩
  · isplitl [Hv]
    · iapply hv $$ Hv
    · iexact Hu
  imodintro
  iapply (bigSep_with_persistent (R := records m κ) fun c _ => rest_intro m κ c)
  isplitr
  · unfold records
    isplitr; · iexact Hinv
    iexact Hr
  iapply Smoke.bigSep_pair
  isplitr [He]
  · iapply Smoke.bigSep_pair; isplitl [Htok]; · iapply (payments_around (F := F)) $$ Htok
    iapply Smoke.bigSep_pair; isplitl [Hopen]; · iapply hopen $$ Hopen
    iapply Smoke.bigSep_pair; isplitl [Hat]; · iapply hat $$ Hat
    iexact Hcr
  · iexact He

/-! ## The region among the buffers -/

theorem reg_pre (c : Dev nD) : iprop(StableHlo.held (c : Thread nD τ) (Pipeline.ucRefs τ sig) (V1 m c) ∗ rest m 0 c) ⊢ (reg m).pre c := by
  show iprop(StableHlo.held (c : Thread nD τ) (Pipeline.ucRefs τ sig) (V1 m c)
      ∗ Tk m c ∗ (∃ r, prngReg c r) ∗ ∃ W, owes (c : Thread nD τ) (owed (dues c)) W)
    ⊢ iprop(StableHlo.held (c : Thread nD τ) (Pipeline.arrRefs (τ := τ) spec0) (V1 m c) ∗ (∃ r, prngReg c r)
      ∗ (StableHlo.held (c : Thread nD τ) others (V1 m c) ∗ emp) ∗ Tk m c
      ∗ ∃ Wd, owes (c : Thread nD τ) ((0 : CellTallies nD τ sig Unit) + owed (dues c)) Wd)
  rw [StableHlo.held_sub_split (c : Thread nD τ) (Pipeline.arrRefs_sub_ucRefs spec0 (by decide)) (V1 m c), zero_add]
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem reg_post (c : Dev nD) : (reg m).post c ⊢ iprop(StableHlo.held (c : Thread nD τ) (Pipeline.ucRefs τ sig) (VE m c) ∗ rest m 1 c) := by
  show iprop(StableHlo.held (c : Thread nD τ) (Pipeline.arrRefs (τ := τ) spec0) (VE m c) ∗ (∃ r, prngReg c r)
      ∗ (StableHlo.held (c : Thread nD τ) others (VE m c) ∗ emp) ∗ Yk c
      ∗ ∃ Wd, owes (c : Thread nD τ) (0 : CellTallies nD τ sig Unit) Wd)
    ⊢ iprop(StableHlo.held (c : Thread nD τ) (Pipeline.ucRefs τ sig) (VE m c)
      ∗ Yk c ∗ ∃ W, owes (c : Thread nD τ) (0 : CellTallies nD τ sig Unit) W)
  rw [StableHlo.held_sub_split (c : Thread nD τ) (Pipeline.arrRefs_sub_ucRefs spec0 (by decide)) (VE m c)]
  iintro ⟨Ha, -, ⟨Ho, -⟩, HY, HO⟩
  isplitl [Ha Ho]
  · isplitl [Ha] <;> iassumption
  isplitl [HY] <;> iassumption

/-! ## The run -/

theorem unscoped_eq : ∀ sm : SemLoc sig, sm.isScoped .tc = false → sm = .reg barrier0 := by decide

/-- What a device's memory holds at the end. -/
def ended (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v17) = result m

theorem fin (c : Dev nD) (s' : Phys nD τ sig (Elt F)) :
    iprop((StableHlo.held (c : Thread nD τ) (Pipeline.ucRefs τ sig) (VE m c) ∗ Yk c) ∗ SI s')
      ⊢ (|={Set.univ}=> iprop(⌜ended m c s'.mem ∧ s'.mem.sem (barCell c) = 0⌝ ∗ SI s') : sProp 𝕄) := by
  unfold StableHlo.held Yk
  iintro ⟨⟨Hh, Hb⟩, HSI⟩
  icombine HSI Hb gives %hb
  ihave Hr := (pointsTo_read_all (Pipeline.ucRefs τ sig) (fun b => ((c : Thread nD τ).1, b)) (VE m c) s') $$ [Hh HSI]
  · isplitl [Hh] <;> iassumption
  icases Hr with ⟨%h, HSI⟩
  imodintro
  isplitr
  · ipureintro
    exact ⟨⟨⟨(h (Proc.devRef .tc main_arg0) (Finset.mem_filter.mpr ⟨StableHlo.devRef_mem_tcRefs main_arg0, by decide⟩)).trans (V2_main_arg0 m (outs m) c),
      (h (Proc.devRef .tc main_arg1) (Finset.mem_filter.mpr ⟨StableHlo.devRef_mem_tcRefs main_arg1, by decide⟩)).trans (V2_main_arg1 m (outs m) c),
      (h (Proc.devRef .tc main_arg2) (Finset.mem_filter.mpr ⟨StableHlo.devRef_mem_tcRefs main_arg2, by decide⟩)).trans (V2_main_arg2 m (outs m) c),
      (h (Proc.devRef .tc main_arg3) (Finset.mem_filter.mpr ⟨StableHlo.devRef_mem_tcRefs main_arg3, by decide⟩)).trans (V2_main_arg3 m (outs m) c),
      (h (Proc.devRef .tc main_arg4) (Finset.mem_filter.mpr ⟨StableHlo.devRef_mem_tcRefs main_arg4, by decide⟩)).trans (V2_main_arg4 m (outs m) c)⟩,
      (h (Proc.devRef .tc main_v17) (Finset.mem_filter.mpr ⟨StableHlo.devRef_mem_tcRefs main_v17, by decide⟩)).trans (VE_out m c)⟩,
      by simpa using hb⟩
  iexact HSI

set_option backward.isDefEq.respectTransparency.types false in
/-- From any memory with all counters at zero, every run of the program on the devices ends; at the end every
    device's arguments are as at the start, its result is the sum of the devices' products, and all counters
    are at zero. -/
theorem run_main : θ_run defs (onTc (τ := τ) (main (F := F))) ⟨m, fun _ => 0, ρ⟩
    (fun r => (∀ c : Dev nD, ended m c r.2) ∧ r.2.sem = fun _ => 0) := by
  refine Pipeline.θ_run_regions_kit_dev_sems (pcfgs (F := F)) adm (pdats m) () cellOf_inj EP defs₀ 𝒱₀ L lv m ρ main
    (segs m 𝒱₀ L lv (rest m) () (pdats m) (reg m))
    (fun c Q => by
      rewrite [main_chain c, Pipeline.Seg.run_eq_chain,
        show (segs m 𝒱₀ L lv (rest m) () (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (fun c => owed (dues c)) L_of_ne kept u₀
    (by
      unfold u₀
      iintro Hu
      ihave H := (ownU_pair _ _) $$ Hu
      icases H with ⟨HP, HX⟩
      imodintro
      isplitl [HP]; · iexact HP
      rw [kept_eq]; iexact HX)
    (T₀ := fun c => iprop(StableHlo.held (c : Thread nD τ) (Pipeline.ucRefs τ sig) (V0 m c) ∗ rest m 0 c))
    (Tₙ := fun c => iprop(StableHlo.held (c : Thread nD τ) (Pipeline.ucRefs τ sig) (VE m c) ∗ Yk c))
    (hch := fun c => ⟨.rfl, reg_pre m c, (reg_post m c).trans ?_⟩)
    (hinit := ?_)
    (QY := fun c s => ended m c s ∧ s.sem (barCell c) = 0)
    (hfin := fun c s' => fin m c s')
    (hQ := fun s h hs => ⟨fun c => (h c).1, sem_eq_zero hs fun c sm hsm => by
        obtain rfl := unscoped_eq sm hsm
        exact (h c).2⟩)
  · show iprop(StableHlo.held (c : Thread nD τ) (Pipeline.ucRefs τ sig) (VE m c)
        ∗ Yk c ∗ ∃ W, owes (c : Thread nD τ) (0 : CellTallies nD τ sig Unit) W) ⊢ _
    iintro ⟨Hh, HY, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (owed (dues c)) ∅ ∗ Pipeline.launchCred (fun d => owed (dues d)) c ∗ prngReg c (ρ c) ∗ kept c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owed (dues c)) ∅
              ∗ Pipeline.launchCred (fun d => owed (dues d)) c ∗ prngReg c (ρ c) ∗ kept c)) : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init m ρ) $$ [Hr Hla] with HE
    · isplitl [Hr]; · iexact Hr
      iexact Hla
    imodintro
    rw [bigSep_sep']
    isplitl [Hh]; · iexact Hh
    iexact HE

end Cert.KernelIdeal.Talk

end
-- ==== Proof.Frames.lean ====
/-
  The frame claims: both readings of the kernel's program and the reference run, leave their arguments as
  they were and all counters at zero.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof

open Idealize.ShloMosaic Idealize.ShloMosaic.TcCoe Idealize.SL.Sem

open Cert.KernelIdeal in
/-- The kernel's program, at any float values. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).1, h.2⟩) (Talk.run_main (F := F) m ρ)

/-- The program as printed and the one read over the reals have the same text: their tables of bodies are one. -/
theorem bodies_eq {F : FTy → Type} [FloatOps F] : Cert.Kernel.defs₀ (F := F) = Cert.KernelIdeal.defs₀ (F := F) := by
  refine congrArg (Defs.onTc (Λ := Cert.Kernel.Λ₀)) (funext fun l => funext fun a => ?_)
  match l, a with
  | 0, (t, s) => rfl
  | ⟨_ + 1, h⟩, _ => exact absurd h (Nat.not_lt.2 (Nat.le_add_left _ _))
theorem defs_eq {F : FTy → Type} [FloatOps F] : Cert.Kernel.defs (F := F) = Cert.KernelIdeal.defs (F := F) :=
  congrArg (Pipeline.defs Cert.Kernel.pcfgs) bodies_eq

/-- The program as printed: the run above at words. -/
theorem frame_kernel : Cert.quiescent_Kernel := fun m ρ _ => by
  rw [defs_eq]; exact frame_any (F := Bits) m ρ

/-- The program over the reals. -/
theorem frame_kernelIdeal : Cert.quiescent_KernelIdeal := fun m ρ _ => frame_any (F := Ideal) m ρ

/-- The reference, which has no counters. -/
theorem frame_referenceIdeal : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

end Cert.Proof

end
-- ==== Proof.Sums.lean ====
/-
  The sum the reduction leaves, over the reals: after all five steps every device's accumulator is the
  sum of all 32 devices' blocks, element by element.
-/
module

public import proofs.«01_k».proof.Proof.Schedule
public import Idealize.ShloMosaic.Lib.Pointwise

@[expose] public section

noncomputable section

namespace Cert.KernelIdeal.Talk

open Idealize.ShloMosaic
open Cert.KernelIdeal Cert.KernelIdeal.Gen

/-- The devices whose blocks a device's accumulator holds before step `k`: those whose number differs
    from its own in the first `k` bits only. -/
def group (k : ℕ) (c : Dev nD) : Finset (Dev nD) := Finset.univ.filter fun d => d.val / 2 ^ k = c.val / 2 ^ k

theorem group_zero : ∀ c, group 0 c = {c} := by decide +kernel
theorem group_succ : ∀ (k : Fin 5) (c : Dev nD), group (k.val + 1) c = group k.val c ∪ group k.val (pr k c) := by decide +kernel
theorem group_disjoint : ∀ (k : Fin 5) (c : Dev nD), Disjoint (group k.val c) (group k.val (pr k c)) := by decide +kernel
theorem group_five : ∀ c, group 5 c = Finset.univ := by decide +kernel

variable (P : Dev nD → Acc Ideal)

/-- Before step `k` the accumulator holds the sum over its group. -/
theorem A_apply (i : (⟨2, ![1024, 768]⟩ : Shape).Idx) : ∀ k, k ≤ 5 → ∀ c, A P k c i = ∑ d ∈ group k c, P d i
  | 0, _, c => by rw [group_zero, Finset.sum_singleton]; rfl
  | k + 1, h, c => by
    rw [A_succ P ⟨k, h⟩ c]
    show A P k c i + A P k (pr ⟨k, h⟩ c) i = _
    rw [A_apply i k (by omega), A_apply i k (by omega), group_succ ⟨k, h⟩, Finset.sum_union (group_disjoint ⟨k, h⟩ c)]

/-- The reduced and gathered accumulator is the sum over all devices. -/
theorem total_apply (i : (⟨2, ![1024, 768]⟩ : Shape).Idx) : total P i = ∑ d : Dev nD, P d i := by
  unfold total
  rw [A_apply P i 5 le_rfl, group_five]

end Cert.KernelIdeal.Talk
end
-- ==== Proof.Slices.lean ====
/-
  What the region finds in its operands: the arguments as launched, and each device's eight heads of the
  keys and of the values, cut out and transposed by the host.
-/
module

public import proofs.«01_k».proof.Proof.Gen.KernelIdeal.Regions
public import Idealize.ShloMosaic.Lib.StableHlo.ReadAt
public import Idealize.ShloMosaic.Lib.Pointwise

@[expose] public section

noncomputable section

namespace Cert.KernelIdeal.Talk

open Idealize.ShloMosaic Idealize.ShloMosaic.TcCoe
open Cert.KernelIdeal Cert.KernelIdeal.Gen

variable {F : FTy → Type} [FloatOps F] (m : (ℓ : Loc nD τ sig) → Buf (Elt F) ℓ) (c : Dev nD)

/-! The arguments, as launched. -/

theorem V1_arg0 : V1 m c main_arg0 = m ((c.tc : Thread nD τ).loc main_arg0) := V1_of m c main_arg0 (by decide)
theorem V1_arg1 : V1 m c main_arg1 = m ((c.tc : Thread nD τ).loc main_arg1) := V1_of m c main_arg1 (by decide)
theorem V1_arg4 : V1 m c main_arg4 = m ((c.tc : Thread nD τ).loc main_arg4) := V1_of m c main_arg4 (by decide)

/-- A device's number times eight, as the host computes it, wrapped into the heads' axis, is that number. -/
theorem head_word : ∀ c : Dev nD,
    (Scalar.select
      (IntOp.cmpi .slt (IntOp.muli (IntOp.remui .host (IntOp.divui .host c.word 1#32) 32#32) 8#32) 0#32)
      (IntOp.addi (IntOp.muli (IntOp.remui .host (IntOp.divui .host c.word 1#32) 32#32) 8#32) 256#32)
      (IntOp.muli (IntOp.remui .host (IntOp.divui .host c.word 1#32) 32#32) 8#32)).toInt = ((8 * c.val : ℕ) : Int) := by
  decide +kernel

/-- Where the device's keys begin. -/
theorem first_k (o : S_.Idx) :
    BitVec.toInt (n := 32) ((StableHlo.upto (hostOps0 c) (V0 m c) 16 (Proc.tc.devRef main_v8) : IVec S_ 32) o) = ((8 * c.val : ℕ) : Int) := by
  after_reads_at
  exact head_word c
/-- Where the device's values begin. -/
theorem first_v (o : S_.Idx) :
    BitVec.toInt (n := 32) ((StableHlo.upto (hostOps0 c) (V0 m c) 27 (Proc.tc.devRef main_v13) : IVec S_ 32) o) = ((8 * c.val : ℕ) : Int) := by
  after_reads_at
  exact head_word c

/-- A cut that starts at head `8 c` and at the beginning of the other axes, at an element. -/
theorem cut (X : Vec F S2x512x256x64 .bf16) (start : Fin 4 → Int) (h0 : start 0 = 0) (h1 : start 1 = 0) (h2 : start 2 = ((8 * c.val : ℕ) : Int)) (h3 : start 3 = 0)
    (b : Fin 2) (h : Fin 8) (i : Fin 512) (d : Fin 64) {hr : S2x512x8x64.rank = S2x512x256x64.rank} {p0 p1 p2 p3} :
    X (ix4 ⟨Host.clampedStart S2x512x256x64 S2x512x8x64 hr start 0 + b.val, p0⟩ ⟨Host.clampedStart S2x512x256x64 S2x512x8x64 hr start 1 + i.val, p1⟩
        ⟨Host.clampedStart S2x512x256x64 S2x512x8x64 hr start 2 + h.val, p2⟩ ⟨Host.clampedStart S2x512x256x64 S2x512x8x64 hr start 3 + d.val, p3⟩)
      = X (ix4 b i ⟨8 * c.val + h.val, by have : c.val < 32 := c.isLt; omega⟩ d) := by
  have hc : c.val < 32 := c.isLt
  have e0 := Host.clampedStart_of_le (s := S2x512x256x64) (t := S2x512x8x64) hr start 0 0 h0 (Nat.le_refl 2)
  have e1 := Host.clampedStart_of_le (s := S2x512x256x64) (t := S2x512x8x64) hr start 1 0 h1 (Nat.le_refl 512)
  have e2 := Host.clampedStart_of_le (s := S2x512x256x64) (t := S2x512x8x64) hr start 2 (8 * c.val) h2 (by show 8 * c.val + 8 ≤ 256; omega)
  have e3 := Host.clampedStart_of_le (s := S2x512x256x64) (t := S2x512x8x64) hr start 3 0 h3 (Nat.le_refl 64)
  refine congrArg X (funext fun (a : Fin 4) => Fin.ext ?_)
  match a with
  | 0 => exact (congrArg (· + b.val) e0).trans (Nat.zero_add _)
  | 1 => exact (congrArg (· + i.val) e1).trans (Nat.zero_add _)
  | 2 => exact congrArg (· + h.val) e2
  | 3 => exact (congrArg (· + d.val) e3).trans (Nat.zero_add _)

/-- The keys the region finds: the device's eight heads. -/
theorem V1_keys (b : Fin 2) (h : Fin 8) (i : Fin 512) (d : Fin 64) :
    (V1 m c main_v15 : Vec F S2x8x512x64 .bf16) (ix4 b h i d)
      = (m ((c.tc : Thread nD τ).loc main_arg2) : Vec F S2x512x256x64 .bf16) (ix4 b i ⟨8 * c.val + h.val, by have : c.val < 32 := c.isLt; omega⟩ d) := by
  unfold V1
  after_reads_at
  refine cut c (m ((c.tc : Thread nD τ).loc main_arg2)) _ ?_ ?_ ?_ ?_ b h i d
  · show BitVec.toInt (n := 32) ((StableHlo.upto (hostOps0 c) (V0 m c) 16 (Proc.tc.devRef main_c_4) : IVec S_ 32) _) = 0
    after_reads_at
    rfl
  · show BitVec.toInt (n := 32) ((StableHlo.upto (hostOps0 c) (V0 m c) 16 (Proc.tc.devRef main_c_5) : IVec S_ 32) _) = 0
    after_reads_at
    rfl
  · exact first_k m c _
  · show BitVec.toInt (n := 32) ((StableHlo.upto (hostOps0 c) (V0 m c) 16 (Proc.tc.devRef main_c_6) : IVec S_ 32) _) = 0
    after_reads_at
    rfl

/-- The values the region finds: the device's eight heads. -/
theorem V1_values (b : Fin 2) (h : Fin 8) (i : Fin 512) (d : Fin 64) :
    (V1 m c main_v16 : Vec F S2x8x512x64 .bf16) (ix4 b h i d)
      = (m ((c.tc : Thread nD τ).loc main_arg3) : Vec F S2x512x256x64 .bf16) (ix4 b i ⟨8 * c.val + h.val, by have : c.val < 32 := c.isLt; omega⟩ d) := by
  unfold V1
  after_reads_at
  refine cut c (m ((c.tc : Thread nD τ).loc main_arg3)) _ ?_ ?_ ?_ ?_ b h i d
  · show BitVec.toInt (n := 32) ((StableHlo.upto (hostOps0 c) (V0 m c) 27 (Proc.tc.devRef main_c_10) : IVec S_ 32) _) = 0
    after_reads_at
    rfl
  · show BitVec.toInt (n := 32) ((StableHlo.upto (hostOps0 c) (V0 m c) 27 (Proc.tc.devRef main_c_11) : IVec S_ 32) _) = 0
    after_reads_at
    rfl
  · exact first_v m c _
  · show BitVec.toInt (n := 32) ((StableHlo.upto (hostOps0 c) (V0 m c) 27 (Proc.tc.devRef main_c_12) : IVec S_ 32) _) = 0
    after_reads_at
    rfl

end Cert.KernelIdeal.Talk
end
-- ==== Proof.Reference.lean ====
/-
  The reference's composed term cut into its stages.
-/
module

public import proofs.«01_k».proof.Proof.Gen.ReferenceIdeal.Run

@[expose] public section

noncomputable section

namespace Cert.ReferenceIdeal.Value

open Idealize.ShloMosaic Idealize.ShloMosaic.TcCoe
open Cert.ReferenceIdeal Cert.ReferenceIdeal.Gen

variable {F : FTy → Type} [FloatOps F]

/-- The block of 64 positions that each position is in. -/
def blk : IVec S512 32 :=
  select (andi (cmpi .ne (signi (iotaInDim S512 32 0)) (broadcastInDim S512 ![] bcast_S_S512 (signi (constantI S_ 32 64#32)))) (cmpi .ne (Host.remsi (iotaInDim S512 32 0) (broadcastInDim S512 ![] bcast_S_S512 (constantI S_ 32 64#32))) (broadcastInDim S512 ![] bcast_S_S512 (constantI S_ 32 0#32))))
    (subi (Host.divsi (iotaInDim S512 32 0) (broadcastInDim S512 ![] bcast_S_S512 (constantI S_ 32 64#32))) (broadcastInDim S512 ![] bcast_S_S512 (constantI S_ 32 1#32)))
    (Host.divsi (iotaInDim S512 32 0) (broadcastInDim S512 ![] bcast_S_S512 (constantI S_ 32 64#32)))

/-- Which keys a query sees. -/
def mask : IVec S512x512 1 :=
  cmpi .sle (broadcastInDim S512x512 ![0, 1] bcast_S1x512_S512x512_0_1 (broadcastInDim S1x512 ![1] bcast_S512_S1x512_1 blk))
    (broadcastInDim S512x512 ![0, 1] bcast_S512x1_S512x512_0_1 (broadcastInDim S512x1 ![0] bcast_S512_S512x1_0 blk))

/-- The queries that see some key. -/
def keep : IVec S512 1 := Host.reduce IntOp.ori mask (constantI S_ 1 0#1) reducesTo_S512x512_S512_d1 h_S_
def keep' : IVec S1x1x512x1 1 := broadcastInDim S1x1x512x1 ![2] bcast_S512_S1x1x512x1_2 keep

/-- The projected queries. -/
def queries (x : FVec F S2x512x768 .bf16) (wq : FVec F S768x16384 .bf16) : FVec F S2x512x256x64 .bf16 :=
  shapeCast S2x512x256x64 (truncf .bf16 (Host.dotGeneral dot_S2x512x768_S768x16384_S2x512x16384_2_0_01_1_n_n none x wq) bitsLt_bf16_f32 : FVec F S2x512x16384 .bf16) shapeCasts_S2x512x16384_S2x512x256x64

/-- The masked scores. -/
def scores (q k : FVec F S2x512x256x64 .bf16) : FVec F S2x256x512x512 .f32 :=
  select (broadcastInDim S2x256x512x512 ![0, 1, 2, 3] bcast_S1x1x512x512_S2x256x512x512_0_1_2_3 (broadcastInDim S1x1x512x512 ![2, 3] bcast_S512x512_S1x1x512x512_2_3 mask))
    (mulf (extf .f32 (truncf .bf16 (Host.dotGeneral dot_S2x512x256x64_S2x512x256x64_S2x256x512x512_3_3_1_1_02_02 none q k : FVec F S2x256x512x512 .f32) bitsLt_bf16_f32) bitsLt_bf16_f32)
      (broadcastInDim S2x256x512x512 ![] bcast_S_S2x256x512x512 (constant S_ .f32 0x3E000000#32)))
    (broadcastInDim S2x256x512x512 ![] bcast_S_S2x256x512x512 (constant S_ .f32 0xCE6E6B28#32))

/-- The exponentials of the scores over their row's largest. -/
def exps (s : FVec F S2x256x512x512 .f32) : FVec F S2x256x512x512 .f32 :=
  Host.exp (subf s (broadcastInDim S2x256x512x512 ![0, 1, 2, 3] bcast_S2x256x512x1_S2x256x512x512_0_1_2_3 (broadcastInDim S2x256x512x1 ![0, 1, 2] bcast_S2x256x512_S2x256x512x1_0_1_2
    (Host.reduce FloatOps.maximumf s (constant S_ .f32 0xFF800000#32) reducesTo_S2x256x512x512_S2x256x512_d3 h_S_))))

/-- The weights: the exponentials over their row's sum. -/
def weights (w : FVec F S2x256x512x512 .f32) : FVec F S2x256x512x512 .f32 :=
  select (broadcastInDim S2x256x512x512 ![0, 1, 2, 3] bcast_S1x1x512x1_S2x256x512x512_0_1_2_3 keep')
    (Host.divf w (broadcastInDim S2x256x512x512 ![0, 1, 2, 3] bcast_S2x256x512x1_S2x256x512x512_0_1_2_3
      (select (broadcastInDim S2x256x512x1 ![0, 1, 2, 3] bcast_S1x1x512x1_S2x256x512x1_0_1_2_3 keep')
        (broadcastInDim S2x256x512x1 ![0, 1, 2] bcast_S2x256x512_S2x256x512x1_0_1_2 (Host.reduceAdd w (constant S_ .f32 0x00000000#32) reducesTo_S2x256x512x512_S2x256x512_d3 h_S_))
        (broadcastInDim S2x256x512x1 ![] bcast_S_S2x256x512x1 (constant S_ .f32 0x3F800000#32)))))
    (broadcastInDim S2x256x512x512 ![] bcast_S_S2x256x512x512 (constant S_ .f32 0x00000000#32))

/-- The contexts. -/
def contexts (w : FVec F S2x256x512x512 .f32) (v : FVec F S2x512x256x64 .bf16) : FVec F S2x512x16384 .f32 :=
  shapeCast S2x512x16384 (transpose S2x512x256x64 [0, 3, 1, 2] (Host.dotGeneral dot_S2x512x256x64_S2x256x512x512_S2x256x64x512_1_3_3_2_02_01 none (extf .f32 v bitsLt_bf16_f32) w : FVec F S2x256x64x512 .f32) transposes_S2x256x64x512_S2x512x256x64_0_3_1_2) shapeCasts_S2x512x256x64_S2x512x16384

/-- The whole reference. -/
def attention (x : FVec F S2x512x768 .bf16) (wq : FVec F S768x16384 .bf16) (k v : FVec F S2x512x256x64 .bf16) (wo : FVec F S16384x768 .bf16) : FVec F S2x512x768 .f32 :=
  Host.dotGeneral dot_S2x512x16384_S16384x768_S2x512x768_2_0_01_1_n_n none (contexts (weights (exps (scores (queries x wq) k))) v) (extf .f32 wo bitsLt_bf16_f32)

/-- The composed term is the stages one after the other. -/
theorem res_eq (m : (ℓ : Loc nD τ sig) → Buf (Elt F) ℓ) (c : Dev nD) :
    res_main_v38 m c = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold res_main_v38
  rfl

end Cert.ReferenceIdeal.Value
end
-- ==== Proof.Softmax.lean ====
/-
  One head of attention over the reals, element by element, and that the kernel's head computes it.
-/
module

public import proofs.«01_k».proof.Proof.Attention
public import Idealize.ShloMosaic.Lib.Pointwise

@[expose] public section

noncomputable section

namespace Cert.Value

open Idealize.ShloMosaic

/-- Whether query `i` sees key `j`: the key's block of 64 positions is the query's or an earlier one. -/
def sees (i j : Fin 512) : BitVec 1 := BitVec.ofBool (decide (j.val / 64 ≤ i.val / 64))

/-- Comparing the blocks as signed words is comparing them. -/
theorem cmp_blocks (i j : Fin 512) :
    IntOp.cmpi .sle (BitVec.ofNat 32 (j.val / 64)) (BitVec.ofNat 32 (i.val / 64)) = sees i j := by
  have key : ∀ a b : Fin 8, IntOp.cmpi .sle (BitVec.ofNat 32 b.val) (BitVec.ofNat 32 a.val) = BitVec.ofBool (decide (b.val ≤ a.val)) := by
    decide +kernel
  exact key ⟨i.val / 64, by omega⟩ ⟨j.val / 64, by omega⟩

/-- Every query sees itself. -/
theorem sees_self (i : Fin 512) : sees i i = 1#1 := by simp [sees]

/-- The masked score of query `i` against key `j`. -/
def score (q k : Fin 512 → Fin 64 → EReal) (i j : Fin 512) : EReal :=
  Scalar.select (sees i j) ((∑ d : Fin 64, q i d * k j d) * Ideal.ofBits .f32 0x3E000000#32) (Ideal.ofBits .f32 0xCE6E6B28#32)

/-- The largest score of a row. -/
def top (s : Fin 512 → EReal) : EReal := Finset.univ.fold max (Ideal.ofBits .f32 0xFF800000#32) s

/-- The softmax of a row. -/
def weight (s : Fin 512 → EReal) (j : Fin 512) : EReal :=
  Ideal.div (Ideal.exp (s j - top s)) (∑ j' : Fin 512, Ideal.exp (s j' - top s))

/-- One head: the values weighted by the softmax of the masked scores. -/
def attend (q k v : Fin 512 → Fin 64 → EReal) (i : Fin 512) (d : Fin 64) : EReal :=
  ∑ j : Fin 512, weight (score q k i) j * v j d

end Cert.Value

namespace Cert.KernelIdeal.Talk

open Idealize.ShloMosaic Cert.Value
open Cert.KernelIdeal Cert.KernelIdeal.Gen

/-- The quotient of a position by 64, rounded down, as the kernel writes it, is the position's block. -/
theorem blk_word : ∀ n : Fin 512,
    Scalar.select
        (IntOp.andi
          (IntOp.cmpi .ne
            (IntOp.subi (BitVec.setWidth 32 (IntOp.cmpi .sgt (BitVec.ofNat 32 n.val) 0#32))
              (BitVec.setWidth 32 (IntOp.cmpi .slt (BitVec.ofNat 32 n.val) 0#32)))
            (Scalar.subi (Scalar.extui (Scalar.cmpi .sgt 64#32 0#32)) (Scalar.extui (Scalar.cmpi .slt 64#32 0#32))))
          (IntOp.cmpi .ne (IntOp.remsi .vector (BitVec.ofNat 32 n.val) 64#32) 0#32))
        (IntOp.subi (IntOp.divsi .vector (BitVec.ofNat 32 n.val) 64#32) 1#32)
        (IntOp.divsi .vector (BitVec.ofNat 32 n.val) 64#32)
      = BitVec.ofNat 32 (n.val / 64) := by
  decide +kernel

/-- The kernel's mask at an element. -/
theorem mask_apply (i j : Fin 512) : mask (ix2 i j) = sees i j := by
  pointwise [mask, k0_pay8, k0_pay7]
  rw [blk_word, blk_word]
  exact cmp_blocks i j

/-- The kernel's head at an element. -/
theorem head_apply (q k v : FVec Ideal S512x64 .bf16) (i : Fin 512) (d : Fin 64) :
    head q k v (ix2 i d) = attend (fun i d => q (ix2 i d)) (fun i d => k (ix2 i d)) (fun i d => v (ix2 i d)) i d := by
  pointwise [head]
  simp only [mask_apply]
  rfl

end Cert.KernelIdeal.Talk
end
-- ==== Proof.Head.lean ====
/-
  The reference's stages over the reals, element by element.
-/
module

public import proofs.«01_k».proof.Proof.Reference
public import proofs.«01_k».proof.Proof.Softmax
public import Idealize.ShloMosaic.Lib.Routing.OpsOrder

@[expose] public section

noncomputable section

namespace Cert.ReferenceIdeal.Value

open Idealize.ShloMosaic Idealize.ShloMosaic.TcCoe Cert.Value
open Cert.ReferenceIdeal Cert.ReferenceIdeal.Gen

/-- The quotient of a position by 64, rounded down, as the reference writes it, is the position's block. -/
theorem blk_word : ∀ n : Fin 512,
     Scalar.select
         (IntOp.andi
           (IntOp.cmpi .ne
             (if BitVec.ofNat 32 n.val = 0 then (0 : BitVec 32) else if (BitVec.ofNat 32 n.val).msb = true then -1 else 1)
             (if 64#32 = 0 then (0 : BitVec 32) else if (64#32).msb = true then -1 else 1))
           (IntOp.cmpi .ne (IntOp.remsi .host (BitVec.ofNat 32 n.val) 64#32) 0#32))
         (IntOp.subi (IntOp.divsi .host (BitVec.ofNat 32 n.val) 64#32) 1#32)
         (IntOp.divsi .host (BitVec.ofNat 32 n.val) 64#32)
       = BitVec.ofNat 32 (n.val / 64) := by
  decide +kernel

/-- The reference's mask at an element. -/
theorem mask_apply (i j : Fin 512) : mask (ix2 i j) = sees i j := by
  pointwise [mask, blk]
  exact (congrArg₂ (IntOp.cmpi .sle) (blk_word j) (blk_word i)).trans (cmp_blocks i j)

/-- Every query sees some key. -/
theorem keep_apply (i : Fin 512) : keep (ix1 i) = 1#1 := by
  pointwise [keep]
  simp only [mask_apply]
  exact (Routing.fold_ori _ _).mpr ⟨i, Finset.mem_univ _, sees_self i⟩

/-- The projected queries at an element: head `h`'s column `d` is column `64 h + d` of the product. -/
theorem queries_apply (x : FVec Ideal S2x512x768 .bf16) (wq : FVec Ideal S768x16384 .bf16) (b : Fin 2) (i : Fin 512) (h : Fin 256) (d : Fin 64) :
    queries x wq (ix4 b i h d) = ∑ t : Fin 768, x (ix3 b i t) * wq (ix2 t ⟨h.val * 64 + d.val, by omega⟩) := by
  pointwise [queries]

/-- The masked scores at an element. -/
theorem scores_apply (q k : FVec Ideal S2x512x256x64 .bf16) (b : Fin 2) (h : Fin 256) (i j : Fin 512) :
    scores q k (ix4 b h i j) = score (fun i d => q (ix4 b i h d)) (fun i d => k (ix4 b i h d)) i j := by
  pointwise [scores]
  rw [mask_apply]
  rfl

/-- The exponentials at an element. -/
theorem exps_apply (s : FVec Ideal S2x256x512x512 .f32) (b : Fin 2) (h : Fin 256) (i j : Fin 512) :
    exps s (ix4 b h i j) = Ideal.exp (s (ix4 b h i j) - top fun j => s (ix4 b h i j)) := by
  pointwise [exps]
  rfl

/-- The weights at an element: the two guards against an empty row change nothing. -/
theorem weights_apply (s : FVec Ideal S2x256x512x512 .f32) (b : Fin 2) (h : Fin 256) (i j : Fin 512) :
    weights s (ix4 b h i j) = Ideal.div (s (ix4 b h i j)) (∑ j : Fin 512, s (ix4 b h i j)) := by
  pointwise [weights, keep']
  rw [keep_apply]
  rfl

/-- The contexts at an element. -/
theorem contexts_apply (w : FVec Ideal S2x256x512x512 .f32) (v : FVec Ideal S2x512x256x64 .bf16) (b : Fin 2) (i : Fin 512) (t : Fin 16384) :
    contexts w v (ix3 b i t) = ∑ j : Fin 512, w (ix4 b ⟨t.val / 64, by omega⟩ i j) * v (ix4 b j ⟨t.val / 64, by omega⟩ ⟨t.val % 64, by omega⟩) := by
  pointwise [contexts]
  exact Finset.sum_congr rfl fun j _ => mul_comm _ _

/-- The reference at an element. -/
theorem attention_apply (x : FVec Ideal S2x512x768 .bf16) (wq : FVec Ideal S768x16384 .bf16) (k v : FVec Ideal S2x512x256x64 .bf16) (wo : FVec Ideal S16384x768 .bf16)
  (b : Fin 2) (i : Fin 512) (n : Fin 768) :
    attention x wq k v wo (ix3 b i n) = ∑ t : Fin 16384, contexts (weights (exps (scores (queries x wq) k))) v (ix3 b i t) * wo (ix2 t n) := by
  pointwise [attention]

end Cert.ReferenceIdeal.Value
end
-- ==== Proof.Partial.lean ====
/-
  A device's block of the sum and the whole reference over the reals, element by element, as sums of the
  same attention over a device's columns and over all columns.
-/
module

public import proofs.«01_k».proof.Proof.Head

@[expose] public section

noncomputable section

namespace Cert.KernelIdeal.Talk

open Idealize.ShloMosaic Cert.Value
open Cert.KernelIdeal Cert.KernelIdeal.Gen

variable (x : FVec Ideal S2x512x768 .bf16) (wq : FVec Ideal S768x512 .bf16) (k v : FVec Ideal S2x8x512x64 .bf16) (wo : FVec Ideal S512x768 .bf16)

/-- The projected queries at an element. -/
theorem queries_apply (b : Fin 2) (i n : Fin 512) :
    queries (F := Ideal) x wq b (ix2 i n) = ∑ t : Fin 768, x (ix3 b i t) * wq (ix2 t n) := by
  pointwise [queries, xRows]

/-- One head's context at an element. -/
theorem context_apply (b : Fin 2) (h : Fin 8) (i : Fin 512) (d : Fin 64) :
    context (F := Ideal) x wq k v b h (ix2 i d)
      = attend (fun i d => ∑ t : Fin 768, x (ix3 b i t) * wq (ix2 t ⟨64 * h.val + d.val, by omega⟩))
          (fun i d => k (ix4 b h i d)) (fun i d => v (ix4 b h i d)) i d := by
  refine (head_apply _ _ _ i d).trans ?_
  exact congrArg (fun q => attend q (fun i d => k (ix4 b h i d)) (fun i d => v (ix4 b h i d)) i d)
    (funext fun i => funext fun d => queries_apply x wq b i ⟨64 * h.val + d.val, by omega⟩)

/-- A batch's product at an element. -/
theorem product_apply (b : Fin 2) (i : Fin 512) (n : Fin 768) :
    product (F := Ideal) x wq k v wo b (ix2 i n)
      = ∑ t : Fin 512, context (F := Ideal) x wq k v b ⟨t.val / 64, by omega⟩ (ix2 i ⟨t.val % 64, by omega⟩) * wo (ix2 t n) := by
  pointwise [product, contexts]

/-- The block of the sum at an element. -/
theorem partialSum_apply (b : Fin 2) (i : Fin 512) (n : Fin 768) :
    partialSum (F := Ideal) x wq k v wo (ix2 ⟨512 * b.val + i.val, by omega⟩ n)
      = ∑ t : Fin 512, attend (fun i d => ∑ u : Fin 768, x (ix3 b i u) * wq (ix2 u ⟨64 * (t.val / 64) + d.val, by omega⟩))
          (fun i d => k (ix4 b ⟨t.val / 64, by omega⟩ i d)) (fun i d => v (ix4 b ⟨t.val / 64, by omega⟩ i d)) i ⟨t.val % 64, by omega⟩ * wo (ix2 t n) := by
  have hb : (⟨(512 * b.val + i.val) / 512, by omega⟩ : Fin 2) = b := Fin.ext (by show _ / 512 = _; omega)
  have hi : (⟨(512 * b.val + i.val) % 512, by omega⟩ : Fin 512) = i := Fin.ext (by show _ % 512 = _; omega)
  refine (congrArg₂ (fun b i => product (F := Ideal) x wq k v wo b (ix2 i n)) hb hi).trans ((product_apply x wq k v wo b i n).trans ?_)
  exact Finset.sum_congr rfl fun t _ => congrArg (· * wo (ix2 t n)) (context_apply x wq k v b _ i _)

end Cert.KernelIdeal.Talk

namespace Cert.ReferenceIdeal.Value

open Idealize.ShloMosaic Cert.Value
open Cert.ReferenceIdeal Cert.ReferenceIdeal.Gen

variable (x : FVec Ideal S2x512x768 .bf16) (wq : FVec Ideal S768x16384 .bf16) (k v : FVec Ideal S2x512x256x64 .bf16) (wo : FVec Ideal S16384x768 .bf16)

/-- The weights, from the queries: the softmax of a head's masked scores. -/
theorem weights_eq (q k : FVec Ideal S2x512x256x64 .bf16) (b : Fin 2) (h : Fin 256) (i j : Fin 512) :
    weights (exps (scores q k)) (ix4 b h i j) = weight (score (fun i d => q (ix4 b i h d)) (fun i d => k (ix4 b i h d)) i) j := by
  have e : ∀ j, exps (scores q k) (ix4 b h i j)
      = Ideal.exp (score (fun i d => q (ix4 b i h d)) (fun i d => k (ix4 b i h d)) i j - top (score (fun i d => q (ix4 b i h d)) (fun i d => k (ix4 b i h d)) i)) :=
    fun j => (exps_apply _ b h i j).trans (congrArg₂ (fun a t => Ideal.exp (a - top t)) (scores_apply q k b h i j) (funext fun j => scores_apply q k b h i j))
  exact (weights_apply _ b h i j).trans (congrArg₂ Ideal.div (e j) (Finset.sum_congr rfl fun j _ => e j))

/-- The reference at an element, as a sum over all columns. -/
theorem attention_eq (b : Fin 2) (i : Fin 512) (n : Fin 768) :
    attention x wq k v wo (ix3 b i n)
      = ∑ t : Fin 16384, attend (fun i d => ∑ u : Fin 768, x (ix3 b i u) * wq (ix2 u ⟨t.val / 64 * 64 + d.val, by omega⟩))
          (fun i d => k (ix4 b i ⟨t.val / 64, by omega⟩ d)) (fun i d => v (ix4 b i ⟨t.val / 64, by omega⟩ d)) i ⟨t.val % 64, by omega⟩ * wo (ix2 t n) := by
  refine (attention_apply x wq k v wo b i n).trans (Finset.sum_congr rfl fun t _ => congrArg (· * wo (ix2 t n)) ?_)
  have e : ∀ j, weights (exps (scores (queries x wq) k)) (ix4 b ⟨t.val / 64, by omega⟩ i j)
      = weight (score (fun i d => ∑ u : Fin 768, x (ix3 b i u) * wq (ix2 u ⟨t.val / 64 * 64 + d.val, by omega⟩)) (fun i d => k (ix4 b i ⟨t.val / 64, by omega⟩ d)) i) j :=
    fun j => (weights_eq (queries x wq) k b ⟨t.val / 64, by omega⟩ i j).trans
      (congrArg (fun q => weight (score q (fun i d => k (ix4 b i ⟨t.val / 64, by omega⟩ d)) i) j)
        (funext fun i => funext fun d => queries_apply x wq b i ⟨t.val / 64, by omega⟩ d))
  refine (contexts_apply _ v b i t).trans ?_
  simp only [e]
  rfl

end Cert.ReferenceIdeal.Value
end
-- ==== Proof.Columns.lean ====
/-
  A device's columns are a block of all the columns: its block of the sum is the sum of the reference's
  summands over that block, and the sum over the devices is the sum over all columns.
-/
module

public import proofs.«01_k».proof.Proof.Partial
public import Idealize.ShloMosaic.Lib.Layout

@[expose] public section

noncomputable section

namespace Cert.Proof

open Idealize.ShloMosaic Cert.Value

/-- A device's columns of the query weights. -/
theorem wq_block (X : FVec Ideal ⟨2, ![768, 16384]⟩ .bf16) (c : Fin 32) (u : Fin 768) (n : Fin 512) :
    (Layout.block ⟨2, ![768, 512]⟩ ⟨2, ![768, 16384]⟩ 1 32 c X : FVec Ideal ⟨2, ![768, 512]⟩ .bf16) (ix2 u n) = X (ix2 u ⟨512 * c.val + n.val, by omega⟩) := by
  refine congrArg X (funext fun (a : Fin 2) => Fin.ext ?_)
  match a with
  | 0 => rfl
  | 1 => exact congrArg (· + n.val) (Nat.mul_comm c.val 512)

/-- A device's rows of the output weights. -/
theorem wo_block (X : FVec Ideal ⟨2, ![16384, 768]⟩ .bf16) (c : Fin 32) (t : Fin 512) (n : Fin 768) :
    (Layout.block ⟨2, ![512, 768]⟩ ⟨2, ![16384, 768]⟩ 0 32 c X : FVec Ideal ⟨2, ![512, 768]⟩ .bf16) (ix2 t n) = X (ix2 ⟨512 * c.val + t.val, by omega⟩ n) := by
  refine congrArg X (funext fun (a : Fin 2) => Fin.ext ?_)
  match a with
  | 0 => exact congrArg (· + t.val) (Nat.mul_comm c.val 512)
  | 1 => rfl

/-- A sum over all columns is the sum over the devices of the sums over their columns. -/
theorem sum_columns (f : Fin 16384 → EReal) :
    ∑ t : Fin 16384, f t = ∑ c : Fin 32, ∑ t : Fin 512, f ⟨512 * c.val + t.val, by omega⟩ := by
  rw [← Fintype.sum_prod_type' (f := fun (c : Fin 32) (t : Fin 512) => f ⟨512 * c.val + t.val, by omega⟩)]
  refine (Equiv.sum_comp (finProdFinEquiv (m := 32) (n := 512)) f).symm.trans (Finset.sum_congr rfl fun p _ => congrArg f (Fin.ext ?_))
  exact Nat.add_comm p.2.val (512 * p.1.val)

variable (x : FVec Ideal ⟨3, ![2, 512, 768]⟩ .bf16) (wq : FVec Ideal ⟨2, ![768, 16384]⟩ .bf16) (k v : FVec Ideal ⟨4, ![2, 512, 256, 64]⟩ .bf16) (wo : FVec Ideal ⟨2, ![16384, 768]⟩ .bf16)

/-- What column `t` of the contexts adds to an element of the result. -/
def summand (b : Fin 2) (i : Fin 512) (n : Fin 768) (t : Fin 16384) : EReal :=
  attend (fun i d => ∑ u : Fin 768, x (ix3 b i u) * wq (ix2 u ⟨t.val / 64 * 64 + d.val, by omega⟩))
    (fun i d => k (ix4 b i ⟨t.val / 64, by omega⟩ d)) (fun i d => v (ix4 b i ⟨t.val / 64, by omega⟩ d)) i ⟨t.val % 64, by omega⟩ * wo (ix2 t n)

/-- A device's block of the sum, from the whole arguments: the summands of its columns. -/
theorem partialSum_eq (c : Fin 32) (wq' : FVec Ideal ⟨2, ![768, 512]⟩ .bf16) (k' v' : FVec Ideal ⟨4, ![2, 8, 512, 64]⟩ .bf16) (wo' : FVec Ideal ⟨2, ![512, 768]⟩ .bf16)
    (hq : ∀ u n, wq' (ix2 u n) = wq (ix2 u ⟨512 * c.val + n.val, by omega⟩))
    (hk : ∀ b h i d, k' (ix4 b h i d) = k (ix4 b i ⟨8 * c.val + h.val, by omega⟩ d))
    (hv : ∀ b h i d, v' (ix4 b h i d) = v (ix4 b i ⟨8 * c.val + h.val, by omega⟩ d))
    (ho : ∀ t n, wo' (ix2 t n) = wo (ix2 ⟨512 * c.val + t.val, by omega⟩ n))
    (b : Fin 2) (i : Fin 512) (n : Fin 768) :
    Cert.KernelIdeal.Talk.partialSum (F := Ideal) x wq' k' v' wo' (ix2 ⟨512 * b.val + i.val, by omega⟩ n)
      = ∑ t : Fin 512, summand x wq k v wo b i n ⟨512 * c.val + t.val, by omega⟩ := by
  refine (Cert.KernelIdeal.Talk.partialSum_apply x wq' k' v' wo' b i n).trans (Finset.sum_congr rfl fun t _ => ?_)
  refine congrArg₂ (· * ·) ?_ (ho t n)
  have hh : (⟨8 * c.val + t.val / 64, by omega⟩ : Fin 256) = ⟨(512 * c.val + t.val) / 64, by omega⟩ := Fin.ext (by show 8 * c.val + t.val / 64 = (512 * c.val + t.val) / 64; omega)
  have ht : (⟨t.val % 64, by omega⟩ : Fin 64) = ⟨(512 * c.val + t.val) % 64, by omega⟩ := Fin.ext (by show t.val % 64 = (512 * c.val + t.val) % 64; omega)
  have eq : (fun (i : Fin 512) (d : Fin 64) => ∑ u : Fin 768, x (ix3 b i u) * wq' (ix2 u ⟨64 * (t.val / 64) + d.val, by omega⟩))
      = fun i d => ∑ u : Fin 768, x (ix3 b i u) * wq (ix2 u ⟨(512 * c.val + t.val) / 64 * 64 + d.val, by omega⟩) :=
    funext fun i => funext fun d => Finset.sum_congr rfl fun u _ => congrArg (x (ix3 b i u) * ·)
      ((hq u _).trans (congrArg (fun n => wq (ix2 u n)) (Fin.ext (by
        show 512 * c.val + (64 * (t.val / 64) + d.val) = (512 * c.val + t.val) / 64 * 64 + d.val; omega))))
  have ek : (fun (i : Fin 512) (d : Fin 64) => k' (ix4 b ⟨t.val / 64, by omega⟩ i d))
      = fun i d => k (ix4 b i ⟨(512 * c.val + t.val) / 64, by omega⟩ d) :=
    funext fun i => funext fun d => (hk b _ i d).trans (congrArg (fun h => k (ix4 b i h d)) hh)
  have ev : (fun (i : Fin 512) (d : Fin 64) => v' (ix4 b ⟨t.val / 64, by omega⟩ i d))
      = fun i d => v (ix4 b i ⟨(512 * c.val + t.val) / 64, by omega⟩ d) :=
    funext fun i => funext fun d => (hv b _ i d).trans (congrArg (fun h => v (ix4 b i h d)) hh)
  exact congr (congrFun (congr (congrArg₂ attend eq ek) ev) i) ht

/-- The reference at an element: the devices' blocks of the sum, added. -/
theorem reference_eq (b : Fin 2) (i : Fin 512) (n : Fin 768) :
    Cert.ReferenceIdeal.Value.attention x wq k v wo (ix3 b i n)
      = ∑ c : Fin 32, ∑ t : Fin 512, summand x wq k v wo b i n ⟨512 * c.val + t.val, by omega⟩ :=
  (Cert.ReferenceIdeal.Value.attention_eq x wq k v wo b i n).trans (sum_columns (summand x wq k v wo b i n))

end Cert.Proof
end
-- ==== Proof.Value.lean ====
/-
  The algebraic claim: over the reals every device's result is the reference's.
-/
module

public import proofs.«01_k».proof.Defs
public import proofs.«01_k».proof.Proof.Run
public import proofs.«01_k».proof.Proof.Sums
public import proofs.«01_k».proof.Proof.Slices
public import proofs.«01_k».proof.Proof.Columns

@[expose] public section

noncomputable section

namespace Cert.Proof

open Idealize.ShloMosaic Idealize.ShloMosaic.TcCoe Idealize.SL.Sem

open Cert.KernelIdeal in
/-- The result of the exchange, when the devices hold their blocks of the whole arguments, is the reference of these. -/
theorem result_eq (m : (ℓ : Loc nD τ sig) → Buf (Elt Ideal) ℓ)
    (x : FVec Ideal ⟨3, ![2, 512, 768]⟩ .bf16) (wq : FVec Ideal ⟨2, ![768, 16384]⟩ .bf16) (k v : FVec Ideal ⟨4, ![2, 512, 256, 64]⟩ .bf16) (wo : FVec Ideal ⟨2, ![16384, 768]⟩ .bf16)
    (h : ∀ c : Dev nD, m ((c.tc : Thread nD τ).loc main_arg0) = x
      ∧ m ((c.tc : Thread nD τ).loc main_arg1) = Layout.block ⟨2, ![768, 512]⟩ ⟨2, ![768, 16384]⟩ 1 32 c wq
      ∧ m ((c.tc : Thread nD τ).loc main_arg2) = k
      ∧ m ((c.tc : Thread nD τ).loc main_arg3) = v
      ∧ m ((c.tc : Thread nD τ).loc main_arg4) = Layout.block ⟨2, ![512, 768]⟩ ⟨2, ![16384, 768]⟩ 0 32 c wo) :
    Talk.result (F := Ideal) m = Cert.ReferenceIdeal.Value.attention x wq k v wo := by
  funext j
  obtain ⟨b, i, n, rfl⟩ : ∃ (b : Fin 2) (i : Fin 512) (n : Fin 768), j = ix3 b i n := ⟨j 0, j 1, j 2, (ix3_eta j).symm⟩
  refine Eq.trans ?_ (reference_eq x wq k v wo b i n).symm
  refine (Talk.total_apply (Talk.parts m) (ix2 ⟨512 * b.val + i.val, by omega⟩ n)).trans (Finset.sum_congr rfl fun c _ => ?_)
  obtain ⟨h0, h1, h2, h3, h4⟩ := h c
  have e0 : (Gen.V1 m c main_arg0 : FVec Ideal ⟨3, ![2, 512, 768]⟩ .bf16) = x := (Talk.V1_arg0 m c).trans h0
  refine Eq.trans ?_ (partialSum_eq x wq k v wo c (Gen.V1 m c main_arg1) (Gen.V1 m c main_v15) (Gen.V1 m c main_v16) (Gen.V1 m c main_arg4)
    (fun u n => (congrFun ((Talk.V1_arg1 m c).trans h1) _).trans (wq_block wq c u n))
    (fun b h i d => (Talk.V1_keys m c b h i d).trans (congrFun h2 _))
    (fun b h i d => (Talk.V1_values m c b h i d).trans (congrFun h3 _))
    (fun t n => (congrFun ((Talk.V1_arg4 m c).trans h4) _).trans (wo_block wo c t n)) b i n)
  exact congrArg (fun y => Talk.partialSum (F := Ideal) y (Gen.V1 m c main_arg1) (Gen.V1 m c main_v15) (Gen.V1 m c main_v16) (Gen.V1 m c main_arg4) _) e0

/-- Over the reals every device's result is the reference's, and both runs leave their arguments as they were. -/
theorem algebraic : Cert.algebraic_KernelIdeal_ReferenceIdeal := fun m g m' g' _ h => by
  refine ⟨Cert.ReferenceIdeal.Value.res_main_v38 m' 0, ?_, ?_⟩
  · refine (θ_run (Cert.KernelIdeal.defs (F := Ideal)) _ _).mono (fun _ r c => ⟨?_, (r.1 c).1⟩) (Cert.KernelIdeal.Talk.run_main (F := Ideal) m g)
    exact (r.1 c).2.trans ((result_eq m _ _ _ _ _ h).trans (Cert.ReferenceIdeal.Value.res_eq m' 0).symm)
  · exact (θ_run (Cert.ReferenceIdeal.defs (F := Ideal)) _ _).mono (fun _ r => r 0) (Cert.ReferenceIdeal.Value.run (F := Ideal) m' g')

end Cert.Proof
end
-- ==== Proof.lean ====
/-
  The claims: the frames of the kernel's program, read at words and over the reals, and of the reference;
  that the two readings are of one program; and that over the reals every device's result is the reference's.
-/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- All claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
